-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x10000 : Shape := ⟨2, ![10000, 10000]⟩
abbrev S3x1 : Shape := ⟨2, ![3, 1]⟩
abbrev S2x1 : Shape := ⟨2, ![2, 1]⟩
abbrev S_ : Shape := ⟨0, ![]⟩

class Facts : Prop where
  slices_S3x1_S2x1_1_0 : S3x1.Slices ![1, 0] S2x1
  bcast_S_S10000x128 : S_.BroadcastsInDim S10000x128 (![] : Fin 0 → Fin S10000x128.rank)
  bcast_S_S10000x10000 : S_.BroadcastsInDim S10000x10000 (![] : Fin 0 → Fin S10000x10000.rank)
  bcast_S_S2x1 : S_.BroadcastsInDim S2x1 (![] : Fin 0 → Fin S2x1.rank)

variable [Facts]

def fn_part1 {F : FTy → Type} [FloatOps F] (main_v4 : IVec S10000x128 1) (main_v7 : IVec S10000x128 1) (main_v10 : IVec S10000x10000 1) (main_v13 : IVec S10000x10000 1) (main_v16 : IVec S2x1 1) (main_v17 : FVec F S2x1 .f32) (main_cst_4 : FVec F S_ .f32) : IVec S10000x128 1 × IVec S10000x128 1 × IVec S10000x10000 1 × IVec S10000x10000 1 × IVec S2x1 1 × IVec S2x1 1 :=
  let main_v18 : FVec F S2x1 .f32 := broadcastInDim S2x1 ![] bcast_S_S2x1 main_cst_4
  let main_v19 : IVec S2x1 1 := cmpf .olt main_v17 main_v18
  (main_v4, main_v7, main_v10, main_v13, main_v16, main_v19)

def fn {F : FTy → Type} [FloatOps F] (main_arg0 : FVec F S10000x128 .f32) (main_arg1 : FVec F S10000x128 .f32) (main_arg2 : FVec F S10000x10000 .f32) (main_arg3 : FVec F S10000x10000 .f32) (main_arg4 : FVec F S3x1 .f32) (main_arg5 : FVec F S3x1 .f32) : IVec S10000x128 1 × IVec S10000x128 1 × IVec S10000x10000 1 × IVec S10000x10000 1 × IVec S2x1 1 × IVec S2x1 1 :=
  let main_v0 : FVec F S2x1 .f32 := (extractStridedSlice S2x1 ![1, 0] · slices_S3x1_S2x1_1_0) main_arg4
  let main_v1 : FVec F S2x1 .f32 := (extractStridedSlice S2x1 ![1, 0] · slices_S3x1_S2x1_1_0) main_arg5
  let main_v2 : FVec F S10000x128 .f32 := Host.absf main_arg0
  let main_cst : FVec F S_ .f32 := constant S_ .f32 0x7F800000#32
  let main_v3 : FVec F S10000x128 .f32 := broadcastInDim S10000x128 ![] bcast_S_S10000x128 main_cst
  let main_v4 : IVec S10000x128 1 := cmpf .olt main_v2 main_v3
  let main_v5 : FVec F S10000x128 .f32 := Host.absf main_arg1
  let main_cst_0 : FVec F S_ .f32 := constant S_ .f32 0x7F800000#32
  let main_v6 : FVec F S10000x128 .f32 := broadcastInDim S10000x128 ![] bcast_S_S10000x128 main_cst_0
  let main_v7 : IVec S10000x128 1 := cmpf .olt main_v5 main_v6
  let main_v8 : FVec F S10000x10000 .f32 := Host.absf main_arg2
  let main_cst_1 : FVec F S_ .f32 := constant S_ .f32 0x7F800000#32
  let main_v9 : FVec F S10000x10000 .f32 := broadcastInDim S10000x10000 ![] bcast_S_S10000x10000 main_cst_1
  let main_v10 : IVec S10000x10000 1 := cmpf .olt main_v8 main_v9
  let main_v11 : FVec F S10000x10000 .f32 := Host.absf main_arg3
  let main_cst_2 : FVec F S_ .f32 := constant S_ .f32 0x7F800000#32
  let main_v12 : FVec F S10000x10000 .f32 := broadcastInDim S10000x10000 ![] bcast_S_S10000x10000 main_cst_2
  let main_v13 : IVec S10000x10000 1 := cmpf .olt main_v11 main_v12
  let main_v14 : FVec F S2x1 .f32 := Host.absf main_v0
  let main_cst_3 : FVec F S_ .f32 := constant S_ .f32 0x7F800000#32
  let main_v15 : FVec F S2x1 .f32 := broadcastInDim S2x1 ![] bcast_S_S2x1 main_cst_3
  let main_v16 : IVec S2x1 1 := cmpf .olt main_v14 main_v15
  let main_v17 : FVec F S2x1 .f32 := Host.absf main_v1
  let main_cst_4 : FVec F S_ .f32 := constant S_ .f32 0x7F800000#32
  fn_part1 (F := F) main_v4 main_v7 main_v10 main_v13 main_v16 main_v17 main_cst_4
-- ==== Kernel.lean ====
abbrev S10000x128 : Shape := ⟨2, ![10000, 128]⟩
abbrev S10000x10000 : Shape := ⟨2, ![10000, 10000]⟩
abbrev S3x1 : Shape := ⟨2, ![3, 1]⟩
abbrev S10000x256 : Shape := ⟨2, ![10000, 256]⟩
abbrev S1024x2048 : Shape := ⟨2, ![1024, 2048]⟩
abbrev S1024x128 : Shape := ⟨2, ![1024, 128]⟩
abbrev S10240x128 : Shape := ⟨2, ![10240, 128]⟩
abbrev S240x128 : Shape := ⟨2, ![240, 128]⟩
abbrev S2048x128 : Shape := ⟨2, ![2048, 128]⟩
abbrev S1x1 : Shape := ⟨2, ![1, 1]⟩

abbrev nBuf : Space → Nat
  | .hbm => 7
  | .vmem => 13
  | .smem => 2
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S3x1, .f32⟩
  | .hbm, ⟨5, _⟩ => ⟨S3x1, .f32⟩
  | .hbm, ⟨6, _⟩ => ⟨S10000x256, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S10000x128, .f32⟩
  | .local _ .vmem, ⟨5, _⟩ => ⟨S10000x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S10240x128, .f32⟩
  | .local _ .vmem, ⟨10, _⟩ => ⟨S10240x128, .f32⟩
  | .local _ .vmem, ⟨11, _⟩ => ⟨S10240x128, .f32⟩
  | .local _ .vmem, ⟨12, _⟩ => ⟨S10240x128, .f32⟩
  | .local _ .smem, ⟨0, _⟩ => ⟨S3x1, .f32⟩
  | .local _ .smem, ⟨1, _⟩ => ⟨S3x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨4, ![2, 2, 10, 5], ![false, false, false, false]⟩

def k0_cond2 (i : grid0.Coords) : BitVec 1 :=
  let arg0 : BitVec 32 := BitVec.ofNat 32 (i 0).val
  let c0_i32_4 : BitVec 32 := 0#32
  let v9 : BitVec 1 := Scalar.cmpi .eq arg0 c0_i32_4
  let arg1 : BitVec 32 := BitVec.ofNat 32 (i 1).val
  let c0_i32_5 : BitVec 32 := 0#32
  let v10 : BitVec 1 := Scalar.cmpi .eq arg1 c0_i32_5
  let v11 : BitVec 1 := Scalar.andi v9 v10
  let v12 : BitVec 32 := Scalar.extui v11
  let c0_i32_6 : BitVec 32 := 0#32
  let v13 : BitVec 1 := Scalar.cmpi .ne v12 c0_i32_6
  v13

def k0_cond3 (i : grid0.Coords) : BitVec 1 :=
  let arg3 : BitVec 32 := BitVec.ofNat 32 (i 3).val
  let c0_i32_15 : BitVec 32 := 0#32
  let v29 : BitVec 1 := Scalar.cmpi .eq arg3 c0_i32_15
  let v30 : BitVec 32 := Scalar.extui v29
  let c0_i32_16 : BitVec 32 := 0#32
  let v31 : BitVec 1 := Scalar.cmpi .ne v30 c0_i32_16
  v31

def k0_off1 (i : grid0.Coords) : Fin 2 → Nat :=
  let arg3 : BitVec 32 := BitVec.ofNat 32 (i 3).val
  let c2048_i32 : BitVec 32 := 2048#32
  let v41 : BitVec 32 := Scalar.muli arg3 c2048_i32
  let v42 : Index := Scalar.indexCast v41
  let c0_22 : Index := 0#32
  ![v42.toNat, 0]
def k0_cond4 (i : grid0.Coords) : BitVec 1 :=
  let arg3 : BitVec 32 := BitVec.ofNat 32 (i 3).val
  let c0_i32_17 : BitVec 32 := 0#32
  let v32 : BitVec 1 := Scalar.cmpi .sgt arg3 c0_i32_17
  let c4_i32 : BitVec 32 := 4#32
  let v33 : BitVec 1 := Scalar.cmpi .slt arg3 c4_i32
  let v34 : BitVec 1 := Scalar.andi v32 v33
  let v35 : BitVec 32 := Scalar.extui v34
  let c0_i32_18 : BitVec 32 := 0#32
  let v36 : BitVec 1 := Scalar.cmpi .ne v35 c0_i32_18
  v36

def k0_off2 (i : grid0.Coords) : Fin 2 → Nat :=
  let arg3 : BitVec 32 := BitVec.ofNat 32 (i 3).val
  let c2048_i32 : BitVec 32 := 2048#32
  let v42 : BitVec 32 := Scalar.muli arg3 c2048_i32
  let v43 : Index := Scalar.indexCast v42
  let c0_24 : Index := 0#32
  ![v43.toNat, 0]
def k0_cond5 (i : grid0.Coords) : BitVec 1 :=
  let arg3 : BitVec 32 := BitVec.ofNat 32 (i 3).val
  let c4_i32_19 : BitVec 32 := 4#32
  let v37 : BitVec 1 := Scalar.cmpi .eq arg3 c4_i32_19
  let v38 : BitVec 32 := Scalar.extui v37
  let c0_i32_20 : BitVec 32 := 0#32
  let v39 : BitVec 1 := Scalar.cmpi .ne v38 c0_i32_20
  v39

def k0_off3 (i : grid0.Coords) : Fin 2 → Nat :=
  let arg3 : BitVec 32 := BitVec.ofNat 32 (i 3).val
  let c2048_i32_24 : BitVec 32 := 2048#32
  let v49 : BitVec 32 := Scalar.muli arg3 c2048_i32_24
  let v50 : Index := Scalar.indexCast v49
  let c0_25 : Index := 0#32
  ![v50.toNat, 0]
def k0_off4 (i : grid0.Coords) : Fin 2 → Nat :=
  let arg2 : BitVec 32 := BitVec.ofNat 32 (i 2).val
  let c1024_i32_29 : BitVec 32 := 1024#32
  let v61 : BitVec 32 := Scalar.muli arg2 c1024_i32_29
  let v62 : Index := Scalar.indexCast v61
  let c0_30 : Index := 0#32
  ![v62.toNat, 0]
def k0_cond6 (i : grid0.Coords) : BitVec 1 :=
  let arg0 : BitVec 32 := BitVec.ofNat 32 (i 0).val
  let c0_i32_7 : BitVec 32 := 0#32
  let v14 : BitVec 1 := Scalar.cmpi .eq arg0 c0_i32_7
  let arg1 : BitVec 32 := BitVec.ofNat 32 (i 1).val
  let c1_i32 : BitVec 32 := 1#32
  let v15 : BitVec 1 := Scalar.cmpi .eq arg1 c1_i32
  let v16 : BitVec 1 := Scalar.andi v14 v15
  let v17 : BitVec 32 := Scalar.extui v16
  let c0_i32_8 : BitVec 32 := 0#32
  let v18 : BitVec 1 := Scalar.cmpi .ne v17 c0_i32_8
  v18

def k0_cond7 (i : grid0.Coords) : BitVec 1 :=
  let arg3 : BitVec 32 := BitVec.ofNat 32 (i 3).val
  let c0_i32_15 : BitVec 32 := 0#32
  let v29 : BitVec 1 := Scalar.cmpi .eq arg3 c0_i32_15
  let v30 : BitVec 32 := Scalar.extui v29
  let c0_i32_16 : BitVec 32 := 0#32
  let v31 : BitVec 1 := Scalar.cmpi .ne v30 c0_i32_16
  v31

def k0_off5 (i : grid0.Coords) : Fin 2 → Nat :=
  let arg3 : BitVec 32 := BitVec.ofNat 32 (i 3).val
  let c2048_i32 : BitVec 32 := 2048#32
  let v41 : BitVec 32 := Scalar.muli arg3 c2048_i32
  let v42 : Index := Scalar.indexCast v41
  let c0_22 : Index := 0#32
  ![v42.toNat, 0]
def k0_cond8 (i : grid0.Coords) : BitVec 1 :=
  let arg3 : BitVec 32 := BitVec.ofNat 32 (i 3).val
  let c0_i32_17 : BitVec 32 := 0#32
  let v32 : BitVec 1 := Scalar.cmpi .sgt arg3 c0_i32_17
  let c4_i32 : BitVec 32 := 4#32
  let v33 : BitVec 1 := Scalar.cmpi .slt arg3 c4_i32
  let v34 : BitVec 1 := Scalar.andi v32 v33
  let v35 : BitVec 32 := Scalar.extui v34
  let c0_i32_18 : BitVec 32 := 0#32
  let v36 : BitVec 1 := Scalar.cmpi .ne v35 c0_i32_18
  v36

def k0_off6 (i : grid0.Coords) : Fin 2 → Nat :=
  let arg3 : BitVec 32 := BitVec.ofNat 32 (i 3).val
  let c2048_i32 : BitVec 32 := 2048#32
  let v42 : BitVec 32 := Scalar.muli arg3 c2048_i32
  let v43 : Index := Scalar.indexCast v42
  let c0_24 : Index := 0#32
  ![v43.toNat, 0]
def k0_cond9 (i : grid0.Coords) : BitVec 1 :=
  let arg3 : BitVec 32 := BitVec.ofNat 32 (i 3).val
  let c4_i32_19 : BitVec 32 := 4#32
  let v37 : BitVec 1 := Scalar.cmpi .eq arg3 c4_i32_19
  let v38 : BitVec 32 := Scalar.extui v37
  let c0_i32_20 : BitVec 32 := 0#32
  let v39 : BitVec 1 := Scalar.cmpi .ne v38 c0_i32_20
  v39

def k0_off7 (i : grid0.Coords) : Fin 2 → Nat :=
  let arg3 : BitVec 32 := BitVec.ofNat 32 (i 3).val
  let c2048_i32_24 : BitVec 32 := 2048#32
  let v49 : BitVec 32 := Scalar.muli arg3 c2048_i32_24
  let v50 : Index := Scalar.indexCast v49
  let c0_25 : Index := 0#32
  ![v50.toNat, 0]
def k0_off8 (i : grid0.Coords) : Fin 2 → Nat :=
  let arg2 : BitVec 32 := BitVec.ofNat 32 (i 2).val
  let c1024_i32_29 : BitVec 32 := 1024#32
  let v61 : BitVec 32 := Scalar.muli arg2 c1024_i32_29
  let v62 : Index := Scalar.indexCast v61
  let c0_30 : Index := 0#32
  ![v62.toNat, 0]
def k0_cond10 (i : grid0.Coords) : BitVec 1 :=
  let arg0 : BitVec 32 := BitVec.ofNat 32 (i 0).val
  let c1_i32_9 : BitVec 32 := 1#32
  let v19 : BitVec 1 := Scalar.cmpi .eq arg0 c1_i32_9
  let arg1 : BitVec 32 := BitVec.ofNat 32 (i 1).val
  let c0_i32_10 : BitVec 32 := 0#32
  let v20 : BitVec 1 := Scalar.cmpi .eq arg1 c0_i32_10
  let v21 : BitVec 1 := Scalar.andi v19 v20
  let v22 : BitVec 32 := Scalar.extui v21
  let c0_i32_11 : BitVec 32 := 0#32
  let v23 : BitVec 1 := Scalar.cmpi .ne v22 c0_i32_11
  v23

def k0_cond11 (i : grid0.Coords) : BitVec 1 :=
  let arg3 : BitVec 32 := BitVec.ofNat 32 (i 3).val
  let c0_i32_15 : BitVec 32 := 0#32
  let v29 : BitVec 1 := Scalar.cmpi .eq arg3 c0_i32_15
  let v30 : BitVec 32 := Scalar.extui v29
  let c0_i32_16 : BitVec 32 := 0#32
  let v31 : BitVec 1 := Scalar.cmpi .ne v30 c0_i32_16
  v31

def k0_off9 (i : grid0.Coords) : Fin 2 → Nat :=
  let arg3 : BitVec 32 := BitVec.ofNat 32 (i 3).val
  let c2048_i32 : BitVec 32 := 2048#32
  let v42 : BitVec 32 := Scalar.muli arg3 c2048_i32
  let v43 : Index := Scalar.indexCast v42
  let c0_23 : Index := 0#32
  ![v43.toNat, 0]
def k0_cond12 (i : grid0.Coords) : BitVec 1 :=
  let arg3 : BitVec 32 := BitVec.ofNat 32 (i 3).val
  let c0_i32_17 : BitVec 32 := 0#32
  let v32 : BitVec 1 := Scalar.cmpi .sgt arg3 c0_i32_17
  let c4_i32 : BitVec 32 := 4#32
  let v33 : BitVec 1 := Scalar.cmpi .slt arg3 c4_i32
  let v34 : BitVec 1 := Scalar.andi v32 v33
  let v35 : BitVec 32 := Scalar.extui v34
  let c0_i32_18 : BitVec 32 := 0#32
  let v36 : BitVec 1 := Scalar.cmpi .ne v35 c0_i32_18
  v36

def k0_off10 (i : grid0.Coords) : Fin 2 → Nat :=
  let arg3 : BitVec 32 := BitVec.ofNat 32 (i 3).val
  let c2048_i32 : BitVec 32 := 2048#32
  let v43 : BitVec 32 := Scalar.muli arg3 c2048_i32
  let v44 : Index := Scalar.indexCast v43
  let c0_25 : Index := 0#32
  ![v44.toNat, 0]
def k0_cond13 (i : grid0.Coords) : BitVec 1 :=
  let arg3 : BitVec 32 := BitVec.ofNat 32 (i 3).val
  let c4_i32_19 : BitVec 32 := 4#32
  let v37 : BitVec 1 := Scalar.cmpi .eq arg3 c4_i32_19
  let v38 : BitVec 32 := Scalar.extui v37
  let c0_i32_20 : BitVec 32 := 0#32
  let v39 : BitVec 1 := Scalar.cmpi .ne v38 c0_i32_20
  v39

def k0_off11 (i : grid0.Coords) : Fin 2 → Nat :=
  let arg3 : BitVec 32 := BitVec.ofNat 32 (i 3).val
  let c2048_i32_25 : BitVec 32 := 2048#32
  let v50 : BitVec 32 := Scalar.muli arg3 c2048_i32_25
  let v51 : Index := Scalar.indexCast v50
  let c0_26 : Index := 0#32
  ![v51.toNat, 0]
def k0_off12 (i : grid0.Coords) : Fin 2 → Nat :=
  let arg2 : BitVec 32 := BitVec.ofNat 32 (i 2).val
  let c1024_i32 : BitVec 32 := 1024#32
  let v65 : BitVec 32 := Scalar.muli arg2 c1024_i32
  let v66 : Index := Scalar.indexCast v65
  let c0_33 : Index := 0#32
  ![v66.toNat, 0]
def k0_cond14 (i : grid0.Coords) : BitVec 1 :=
  let arg0 : BitVec 32 := BitVec.ofNat 32 (i 0).val
  let c1_i32_12 : BitVec 32 := 1#32
  let v24 : BitVec 1 := Scalar.cmpi .eq arg0 c1_i32_12
  let arg1 : BitVec 32 := BitVec.ofNat 32 (i 1).val
  let c1_i32_13 : BitVec 32 := 1#32
  let v25 : BitVec 1 := Scalar.cmpi .eq arg1 c1_i32_13
  let v26 : BitVec 1 := Scalar.andi v24 v25
  let v27 : BitVec 32 := Scalar.extui v26
  let c0_i32_14 : BitVec 32 := 0#32
  let v28 : BitVec 1 := Scalar.cmpi .ne v27 c0_i32_14
  v28

def k0_cond15 (i : grid0.Coords) : BitVec 1 :=
  let arg3 : BitVec 32 := BitVec.ofNat 32 (i 3).val
  let c0_i32_15 : BitVec 32 := 0#32
  let v29 : BitVec 1 := Scalar.cmpi .eq arg3 c0_i32_15
  let v30 : BitVec 32 := Scalar.extui v29
  let c0_i32_16 : BitVec 32 := 0#32
  let v31 : BitVec 1 := Scalar.cmpi .ne v30 c0_i32_16
  v31

def k0_off13 (i : grid0.Coords) : Fin 2 → Nat :=
  let arg3 : BitVec 32 := BitVec.ofNat 32 (i 3).val
  let c2048_i32 : BitVec 32 := 2048#32
  let v42 : BitVec 32 := Scalar.muli arg3 c2048_i32
  let v43 : Index := Scalar.indexCast v42
  let c0_23 : Index := 0#32
  ![v43.toNat, 0]
def k0_cond16 (i : grid0.Coords) : BitVec 1 :=
  let arg3 : BitVec 32 := BitVec.ofNat 32 (i 3).val
  let c0_i32_17 : BitVec 32 := 0#32
  let v32 : BitVec 1 := Scalar.cmpi .sgt arg3 c0_i32_17
  let c4_i32 : BitVec 32 := 4#32
  let v33 : BitVec 1 := Scalar.cmpi .slt arg3 c4_i32
  let v34 : BitVec 1 := Scalar.andi v32 v33
  let v35 : BitVec 32 := Scalar.extui v34
  let c0_i32_18 : BitVec 32 := 0#32
  let v36 : BitVec 1 := Scalar.cmpi .ne v35 c0_i32_18
  v36

def k0_off14 (i : grid0.Coords) : Fin 2 → Nat :=
  let arg3 : BitVec 32 := BitVec.ofNat 32 (i 3).val
  let c2048_i32 : BitVec 32 := 2048#32
  let v43 : BitVec 32 := Scalar.muli arg3 c2048_i32
  let v44 : Index := Scalar.indexCast v43
  let c0_25 : Index := 0#32
  ![v44.toNat, 0]
def k0_cond17 (i : grid0.Coords) : BitVec 1 :=
  let arg3 : BitVec 32 := BitVec.ofNat 32 (i 3).val
  let c4_i32_19 : BitVec 32 := 4#32
  let v37 : BitVec 1 := Scalar.cmpi .eq arg3 c4_i32_19
  let v38 : BitVec 32 := Scalar.extui v37
  let c0_i32_20 : BitVec 32 := 0#32
  let v39 : BitVec 1 := Scalar.cmpi .ne v38 c0_i32_20
  v39

def k0_off15 (i : grid0.Coords) : Fin 2 → Nat :=
  let arg3 : BitVec 32 := BitVec.ofNat 32 (i 3).val
  let c2048_i32_25 : BitVec 32 := 2048#32
  let v50 : BitVec 32 := Scalar.muli arg3 c2048_i32_25
  let v51 : Index := Scalar.indexCast v50
  let c0_26 : Index := 0#32
  ![v51.toNat, 0]
def k0_off16 (i : grid0.Coords) : Fin 2 → Nat :=
  let arg2 : BitVec 32 := BitVec.ofNat 32 (i 2).val
  let c1024_i32 : BitVec 32 := 1024#32
  let v65 : BitVec 32 := Scalar.muli arg2 c1024_i32
  let v66 : Index := Scalar.indexCast v65
  let c0_33 : Index := 0#32
  ![v66.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  let v2 : BitVec 1 := Scalar.cmpi .eq arg1 c0_i32_1
  let c0_i32_2 : BitVec 32 := 0#32
  let v3 : BitVec 32 := Scalar.select v2 arg3 c0_i32_2
  let c0_i32_3 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .eq arg1 c1_i32
  let c0_i32 : BitVec 32 := 0#32
  let v1 : BitVec 32 := Scalar.select v0 arg2 c0_i32
  let c1_i32_0 : BitVec 32 := 1#32
  let v2 : BitVec 1 := Scalar.cmpi .eq arg1 c1_i32_0
  let c0_i32_1 : BitVec 32 := 0#32
  let v3 : BitVec 32 := Scalar.select v2 arg3 c0_i32_1
  let c0_i32_2 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg0 c0_i32
  let c0_i32_0 : BitVec 32 := 0#32
  let v1 : BitVec 32 := Scalar.select v0 c0_i32_0 arg2
  let c0_i32_1 : BitVec 32 := 0#32
  ![v1.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .smem S3x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 1 → Memref sig .tc .smem S3x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]
-- ==== ReferenceIdeal.lean ====
abbrev S10000x128 : Shape := ⟨2, ![10000, 128]⟩
abbrev S10000x10000 : Shape := ⟨2, ![10000, 10000]⟩
abbrev S3x1 : Shape := ⟨2, ![3, 1]⟩
abbrev S1x1 : Shape := ⟨2, ![1, 1]⟩
abbrev S1 : Shape := ⟨1, ![1]⟩
abbrev S10000x256 : Shape := ⟨2, ![10000, 256]⟩

abbrev nBuf : Space → Nat
  | .hbm => 45
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S3x1, .f32⟩
  | .hbm, ⟨5, _⟩ => ⟨S3x1, .f32⟩
  | .hbm, ⟨6, _⟩ => ⟨S1x1, .f32⟩
  | .hbm, ⟨7, _⟩ => ⟨S1, .f32⟩
  | .hbm, ⟨8, _⟩ => ⟨S1x1, .f32⟩
  | .hbm, ⟨9, _⟩ => ⟨S10000x128, .f32⟩
  | .hbm, ⟨10, _⟩ => ⟨S10000x128, .f32⟩
  | .hbm, ⟨11, _⟩ => ⟨S1x1, .f32⟩
  | .hbm, ⟨12, _⟩ => ⟨S1, .f32⟩
  | .hbm, ⟨13, _⟩ => ⟨S1x1, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x1, .f32⟩
  | .hbm, ⟨19, _⟩ => ⟨S1, .f32⟩
  | .hbm, ⟨20, _⟩ => ⟨S1x1, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x1, .f32⟩
  | .hbm, ⟨25, _⟩ => ⟨S1, .f32⟩
  | .hbm, ⟨26, _⟩ => ⟨S1x1, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S1x1, .f32⟩
  | .hbm, ⟨33, _⟩ => ⟨S1, .f32⟩
  | .hbm, ⟨34, _⟩ => ⟨S1x1, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S1x1, .f32⟩
  | .hbm, ⟨39, _⟩ => ⟨S1, .f32⟩
  | .hbm, ⟨40, _⟩ => ⟨S1x1, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Proof.Step.lean ====
/-
  What one grid point does to the buffers, as a function of what they hold: `next`. No logic here, only the values.
-/
module

public import proofs.«01_k».proof.Proof.Gen.KernelIdeal.Skeleton
public import Idealize.ShloMosaic.Lib.Pipeline.FrameBody

@[expose] public section

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- What the twelve buffers of the body hold: the blocks of `A` and `At`, `x_s`, `x_t`, `w_s`, `w_t`, the output block, and the five
    scratch buffers (the accumulator, the two hop-1 products, the two zero-padded inputs). -/
structure Conts (F : FTy → Type) [FloatOps F] where
  a0 : Vec F S1024x2048 .f32
  a1 : Vec F S1024x2048 .f32
  x2 : Vec F S10000x128 .f32
  x3 : Vec F S10000x128 .f32
  w4 : Vec F S3x1 .f32
  w5 : Vec F S3x1 .f32
  o : Vec F S1024x128 .f32
  acc : Vec F S1024x128 .f32
  ys : Vec F S10240x128 .f32
  yt : Vec F S10240x128 .f32
  xs : Vec F S10240x128 .f32
  xt : Vec F S10240x128 .f32

theorem inbK (i : grid0.Coords) : ∀ a, (![2048 * (i 3).val, 0] : Fin 2 → Nat) a + S2048x128.size a ≤ S10240x128.size a := by
  have h : (i 3).val < 5 := (i 3).isLt
  intro a
  fin_cases a
  · show 2048 * (i 3).val + 2048 ≤ 10240; omega
  · show 0 + 128 ≤ 128; omega

theorem inbI (i : grid0.Coords) : ∀ a, (![1024 * (i 2).val, 0] : Fin 2 → Nat) a + S1024x128.size a ≤ S10240x128.size a := by
  have h : (i 2).val < 10 := (i 2).isLt
  intro a
  fin_cases a
  · show 1024 * (i 2).val + 1024 ≤ 10240; omega
  · show 0 + 128 ≤ 128; omega

/-- The 2048 rows of a padded buffer that column block `k` of the matrix meets. -/
abbrev rK (i : grid0.Coords) : Rect S10240x128 := Rect.unit (s := S10240x128) ![2048 * (i 3).val, 0] S2048x128.size (inbK i)
/-- The 1024 rows of a padded buffer that row block `i` of the matrix makes. -/
abbrev rI (i : grid0.Coords) : Rect S10240x128 := Rect.unit (s := S10240x128) ![1024 * (i 2).val, 0] S1024x128.size (inbI i)
/-- The rows of a padded buffer that the input fills. -/
abbrev rTop : Rect S10240x128 := Rect.unit (s := S10240x128) ![0, 0] S10000x128.size inb_S10240x128_S10000x128_0_0
/-- The rows past the input. -/
abbrev rTail : Rect S10240x128 := Rect.unit (s := S10240x128) ![10000, 0] S240x128.size inb_S10240x128_S240x128_10000_0

/-- The scalar in row 0 of a weight column. -/
abbrev w0 (w : Vec F S3x1 .f32) : Elt F .f32 := View.ld w (Rect.unit (s := S3x1) ![0, 0] S1x1.size inb_S3x1_S1x1_0_0) (Shape.Idx.first (numel1_S1x1.symm ▸ Nat.one_pos))
/-- The scalar in row 1 of a weight column. -/
abbrev w1 (w : Vec F S3x1 .f32) : Elt F .f32 := View.ld w (Rect.unit (s := S3x1) ![1, 0] S1x1.size inb_S3x1_S1x1_1_0) (Shape.Idx.first (numel1_S1x1.symm ▸ Nat.one_pos))
/-- The scalar in row 2 of a weight column. -/
abbrev w2 (w : Vec F S3x1 .f32) : Elt F .f32 := View.ld w (Rect.unit (s := S3x1) ![2, 0] S1x1.size inb_S3x1_S1x1_2_0) (Shape.Idx.first (numel1_S1x1.symm ▸ Nat.one_pos))

/-- A padded buffer once the first point has filled it: the input, then rows of zeros. -/
def padded (x : Vec F S10000x128 .f32) : Vec F S10240x128 .f32 :=
  View.canon [⟨rTail, k0_pay2 (F := F)⟩, ⟨rTop, k0_pay1 x⟩]

/-- The first point fills the two padded buffers; no other point does. -/
def fillPads (i : grid0.Coords) (X : Conts F) : Conts F :=
  if (i 0).val = 0 ∧ (i 1).val = 0 ∧ (i 2).val = 0 ∧ (i 3).val = 0 then { X with xs := padded X.x2, xt := padded X.x3 } else X

/-- The accumulator after a point of the first hop: started at column block 0, added to at the middle ones, left alone at the last. -/
def acc1 (i : grid0.Coords) (acc : Vec F S1024x128 .f32) (a : Vec F S1024x2048 .f32) (x : Vec F S10240x128 .f32) : Vec F S1024x128 .f32 :=
  if (i 3).val = 0 then k0_pay5 a (View.ld x (rK i)) else if (i 3).val < 4 then k0_pay6 acc a (View.ld x (rK i)) else acc

/-- The hop-1 product after a point of the first hop: the last column block stores the row block's rows. -/
def prod1 (i : grid0.Coords) (acc : Vec F S1024x128 .f32) (a : Vec F S1024x2048 .f32) (x y : Vec F S10240x128 .f32) : Vec F S10240x128 .f32 :=
  if (i 3).val = 4 then (rI i).overlay y (k0_pay7 i acc a (View.ld x (rK i))) else y

/-- The accumulator after a point of the second hop. -/
def acc2 (i : grid0.Coords) (acc : Vec F S1024x128 .f32) (a : Vec F S1024x2048 .f32) (w : Vec F S3x1 .f32) (x y : Vec F S10240x128 .f32) : Vec F S1024x128 .f32 :=
  if (i 3).val = 0 then k0_pay11 a (w1 w) (View.ld x (rK i)) (w2 w) (View.ld y (rK i))
  else if (i 3).val < 4 then k0_pay12 acc a (w1 w) (View.ld x (rK i)) (w2 w) (View.ld y (rK i)) else acc

/-- The output block after a point of the second hop: the last column block stores it. -/
def out2 (i : grid0.Coords) (o acc : Vec F S1024x128 .f32) (a : Vec F S1024x2048 .f32) (w : Vec F S3x1 .f32) (x y : Vec F S10240x128 .f32) : Vec F S1024x128 .f32 :=
  if (i 3).val = 4 then k0_pay13 i acc a (w1 w) (View.ld x (rK i)) (w2 w) (View.ld y (rK i)) (w0 w) (View.ld x (rI i)) else o

/-- The first hop for the matrix `A`. -/
def hop1s (i : grid0.Coords) (X : Conts F) : Conts F :=
  { X with acc := acc1 i X.acc X.a0 X.xs, ys := prod1 i X.acc X.a0 X.xs X.ys }
/-- The first hop for the matrix `At`. -/
def hop1t (i : grid0.Coords) (X : Conts F) : Conts F :=
  { X with acc := acc1 i X.acc X.a1 X.xt, yt := prod1 i X.acc X.a1 X.xt X.yt }
/-- The second hop for the matrix `A`. -/
def hop2s (i : grid0.Coords) (X : Conts F) : Conts F :=
  { X with acc := acc2 i X.acc X.a0 X.w4 X.xs X.ys, o := out2 i X.o X.acc X.a0 X.w4 X.xs X.ys }
/-- The second hop for the matrix `At`. -/
def hop2t (i : grid0.Coords) (X : Conts F) : Conts F :=
  { X with acc := acc2 i X.acc X.a1 X.w5 X.xt X.yt, o := out2 i X.o X.acc X.a1 X.w5 X.xt X.yt }

/-- What the buffers hold after the body ran at point `i` on buffers holding `X`. -/
def next (i : grid0.Coords) (X : Conts F) : Conts F :=
  if (i 0).val = 0 then (if (i 1).val = 0 then hop1s i (fillPads i X) else hop1t i X)
  else (if (i 1).val = 0 then hop2s i X else hop2t i X)

end Cert.KernelIdeal.Hand

end
-- ==== Proof.Body.lean ====
/-
  The body's triple: run at any grid point on whole buffers holding `X`, the body leaves them holding `next i X`.
-/
module

public import proofs.«01_k».proof.Proof.Step
public import proofs.«01_k».proof.Proof.Gen.KernelIdeal.Frame
public import Idealize.ShloMosaic.Lib.Pipeline.FrameBody
public import Idealize.ShloMosaic.Lib.Tactic
public import Idealize.ShloMosaic.Lib.Pipeline.Value

@[expose] public section

set_option maxRecDepth 16384
set_option maxHeartbeats 8000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
local notation "𝕄" => MT nD τ sig Unit (Elt F) ℕ (UR sig nD τ) ℕ

/-! ## The body's conditions, over the grid coordinates -/

theorem cond1_iff : ∀ i : grid0.Coords, (Scalar.cmpi .ne (Scalar.extui (Scalar.andi (Scalar.andi (Scalar.cmpi .eq (BitVec.ofNat 32 (i 0).val) 0#32) (Scalar.cmpi .eq (BitVec.ofNat 32 (i 1).val) 0#32)) (Scalar.andi (Scalar.cmpi .eq (BitVec.ofNat 32 (i 2).val) 0#32) (Scalar.cmpi .eq (BitVec.ofNat 32 (i 3).val) 0#32))) : BitVec 32) 0#32) = 1#1
    ↔ ((i 0).val = 0 ∧ (i 1).val = 0 ∧ (i 2).val = 0 ∧ (i 3).val = 0) := by decide +kernel
theorem cond2_iff : ∀ i : grid0.Coords, k0_cond2 i = 1#1 ↔ (i 0).val = 0 ∧ (i 1).val = 0 := by decide +kernel
theorem cond6_iff : ∀ i : grid0.Coords, k0_cond6 i = 1#1 ↔ (i 0).val = 0 ∧ (i 1).val = 1 := by decide +kernel
theorem cond10_iff : ∀ i : grid0.Coords, k0_cond10 i = 1#1 ↔ (i 0).val = 1 ∧ (i 1).val = 0 := by decide +kernel
theorem cond14_iff : ∀ i : grid0.Coords, k0_cond14 i = 1#1 ↔ (i 0).val = 1 ∧ (i 1).val = 1 := by decide +kernel
theorem cond3_iff : ∀ i : grid0.Coords, k0_cond3 i = 1#1 ↔ (i 3).val = 0 := by decide +kernel
theorem cond7_iff : ∀ i : grid0.Coords, k0_cond7 i = 1#1 ↔ (i 3).val = 0 := by decide +kernel
theorem cond11_iff : ∀ i : grid0.Coords, k0_cond11 i = 1#1 ↔ (i 3).val = 0 := by decide +kernel
theorem cond15_iff : ∀ i : grid0.Coords, k0_cond15 i = 1#1 ↔ (i 3).val = 0 := by decide +kernel
theorem cond4_iff : ∀ i : grid0.Coords, k0_cond4 i = 1#1 ↔ 0 < (i 3).val ∧ (i 3).val < 4 := by decide +kernel
theorem cond8_iff : ∀ i : grid0.Coords, k0_cond8 i = 1#1 ↔ 0 < (i 3).val ∧ (i 3).val < 4 := by decide +kernel
theorem cond12_iff : ∀ i : grid0.Coords, k0_cond12 i = 1#1 ↔ 0 < (i 3).val ∧ (i 3).val < 4 := by decide +kernel
theorem cond16_iff : ∀ i : grid0.Coords, k0_cond16 i = 1#1 ↔ 0 < (i 3).val ∧ (i 3).val < 4 := by decide +kernel
theorem cond5_iff : ∀ i : grid0.Coords, k0_cond5 i = 1#1 ↔ (i 3).val = 4 := by decide +kernel
theorem cond9_iff : ∀ i : grid0.Coords, k0_cond9 i = 1#1 ↔ (i 3).val = 4 := by decide +kernel
theorem cond13_iff : ∀ i : grid0.Coords, k0_cond13 i = 1#1 ↔ (i 3).val = 4 := by decide +kernel
theorem cond17_iff : ∀ i : grid0.Coords, k0_cond17 i = 1#1 ↔ (i 3).val = 4 := by decide +kernel

/-! ## The two directions run the same arithmetic -/

theorem pay3_eq : @k0_pay3 F = k0_pay1 := rfl
theorem pay4_eq : @k0_pay4 F _ = k0_pay2 := rfl
theorem pay8_eq : @k0_pay8 F _ = k0_pay5 := rfl
theorem pay9_eq : @k0_pay9 F _ = k0_pay6 := rfl
theorem pay10_eq : @k0_pay10 F _ = k0_pay7 := rfl
theorem pay14_eq : @k0_pay14 F _ = k0_pay11 := rfl
theorem pay15_eq : @k0_pay15 F _ = k0_pay12 := rfl
theorem pay16_eq : @k0_pay16 F _ = k0_pay13 := rfl

/-! ## Reading what a run leaves -/

theorem hz : (![0, 0] : Fin 2 → Nat) = fun _ => 0 := funext fun a => by fin_cases a <;> rfl

/-- The row offset of a column block of `A`, in closed form. -/
theorem offK (i : grid0.Coords) : (![BitVec.toNat (Scalar.indexCast (Scalar.muli (BitVec.ofNat 32 (i 3).val) 2048#32)), 0] : Fin 2 → Nat) = ![2048 * (i 3).val, 0] := k0_off1_eq i
/-- The row offset of a row block of `A`, in closed form. -/
theorem offI (i : grid0.Coords) : (![BitVec.toNat (Scalar.indexCast (Scalar.muli (BitVec.ofNat 32 (i 2).val) 1024#32)), 0] : Fin 2 → Nat) = ![1024 * (i 2).val, 0] := k0_off4_eq i

section Reads

variable {sp : Space}

/-- A load of a whole buffer reads its contents. -/
theorem load_whole {d : Fin 2 → Nat} {m : Memref sig .tc sp ⟨2, d⟩ .f32} (h : m.IsWhole) (X : Vec F ⟨2, d⟩ .f32)
    (inb : ∀ a, (![0, 0] : Fin 2 → Nat) a + d a ≤ d a) :
    View.readAt (Elt F) m.view (Rect.unit (s := ⟨2, d⟩) ![0, 0] d inb).toLoadRect (h.unread X) = X := by
  rw [View.readAt_eq_ld, h.read_unread]; exact View.ld_unit_zero (S := ⟨2, d⟩) hz _ _

/-- A load at computed offsets reads the contents at the offsets' closed form. -/
theorem load_at {d n : Fin 2 → Nat} {m : Memref sig .tc sp ⟨2, d⟩ .f32} (h : m.IsWhole) (X : Vec F ⟨2, d⟩ .f32) (off off' : Fin 2 → Nat)
    (inb : ∀ a, off a + n a ≤ d a) (inb' : ∀ a, off' a + n a ≤ d a) (e : off = off') :
    View.readAt (Elt F) m.view (Rect.unit (s := ⟨2, d⟩) off n inb).toLoadRect (h.unread X) = View.ld X (Rect.unit (s := ⟨2, d⟩) off' n inb') := by
  subst e; rw [View.readAt_eq_ld, h.read_unread]

/-- A word loaded from a buffer is the word it holds. -/
theorem load_word {d n : Fin 2 → Nat} {m : Memref sig .tc sp ⟨2, d⟩ .f32} (h : m.IsWhole) (X : Vec F ⟨2, d⟩ .f32) (off : Fin 2 → Nat)
    (inb : ∀ a, off a + n a ≤ d a) (j) :
    View.readAt (Elt F) m.view (Rect.unit (s := ⟨2, d⟩) off n inb).toLoadRect (h.unread X) j = View.ld X (Rect.unit (s := ⟨2, d⟩) off n inb) j := by
  rw [View.readAt_eq_ld, h.read_unread]

/-- A load of a column block's rows of a padded buffer. -/
theorem loadK {m : Memref sig .tc sp S10240x128 .f32} (h : m.IsWhole) (X : Vec F S10240x128 .f32) (i : grid0.Coords) (off inb)
    (e : off = ![2048 * (i 3).val, 0]) :
    View.readAt (Elt F) m.view (Rect.unit (s := S10240x128) off S2048x128.size inb).toLoadRect (h.unread X) = View.ld X (rK i) :=
  load_at h X _ _ inb (inbK i) e

/-- A load of a row block's rows of a padded buffer. -/
theorem loadI {m : Memref sig .tc sp S10240x128 .f32} (h : m.IsWhole) (X : Vec F S10240x128 .f32) (i : grid0.Coords) (off inb)
    (e : off = ![1024 * (i 2).val, 0]) :
    View.readAt (Elt F) m.view (Rect.unit (s := S10240x128) off S1024x128.size inb).toLoadRect (h.unread X) = View.ld X (rI i) :=
  load_at h X _ _ inb (inbI i) e

/-- A buffer stored whole reads as what was stored. -/
theorem read_store_whole {d : Fin 2 → Nat} {m : Memref sig .tc sp ⟨2, d⟩ .f32} (f : m.view.ty.Contents (Elt F)) (w : Vec F ⟨2, d⟩ .f32)
    (inb : ∀ a, (![0, 0] : Fin 2 → Nat) a + d a ≤ d a) :
    m.view.read (Elt F) (m.view.writes (Elt F) f [⟨Rect.unit (s := ⟨2, d⟩) ![0, 0] d inb, w⟩]) = w := by
  rw [View.read_writes_eq_canon _ _ _ (fun y => ⟨_, List.mem_singleton_self _, by
    rw [Rect.mem_set_unit]; intro a; have := (y a).isLt; fin_cases a <;> exact ⟨Nat.zero_le _, by simpa using (y _).isLt⟩⟩)]
  exact View.canon_unit_zero hz _ _

/-- A buffer stored at computed offsets reads as its earlier contents overlaid there. -/
theorem read_store_at {d n : Fin 2 → Nat} {m : Memref sig .tc sp ⟨2, d⟩ .f32} (h : m.IsWhole) (X : Vec F ⟨2, d⟩ .f32) (off off' : Fin 2 → Nat)
    (inb : ∀ a, off a + n a ≤ d a) (inb' : ∀ a, off' a + n a ≤ d a) (e : off = off') (w : Vec F ⟨2, n⟩ .f32) :
    m.view.read (Elt F) (m.view.writes (Elt F) (h.unread X) [⟨Rect.unit (s := ⟨2, d⟩) off n inb, w⟩])
      = (Rect.unit (s := ⟨2, d⟩) off' n inb').overlay X w := by
  subst e
  funext y
  by_cases hy : y ∈ (Rect.unit (s := ⟨2, d⟩) off n inb).set
  · obtain ⟨x, rfl⟩ : ∃ x, (Rect.unit (s := ⟨2, d⟩) off n inb).emb x = y := (Rect.unit (s := ⟨2, d⟩) off n inb).exists_idx_of_mem hy
    rw [View.read_writes_cons_emb, (Rect.unit (s := ⟨2, d⟩) off n inb).overlay_emb]
  · rw [View.read_writes_cons_miss _ _ _ _ _ hy, View.writes_nil, h.read_unread, Rect.overlay_of_not_mem _ _ _ hy]

/-- A row block's rows stored into a product buffer. -/
theorem storeI {m : Memref sig .tc sp S10240x128 .f32} (h : m.IsWhole) (X : Vec F S10240x128 .f32) (i : grid0.Coords) (off inb) (w)
    (e : off = ![1024 * (i 2).val, 0]) :
    m.view.read (Elt F) (m.view.writes (Elt F) (h.unread X) [⟨Rect.unit (s := S10240x128) off S1024x128.size inb, w⟩]) = (rI i).overlay X w :=
  read_store_at h X _ _ inb (inbI i) e w

end Reads

/-- The two stores of the first point cover a padded buffer. -/
theorem pads_cover (x : Vec F S10000x128 .f32) (y : S10240x128.Idx) :
    ∃ p ∈ ([⟨rTail, k0_pay2 (F := F)⟩, ⟨rTop, k0_pay1 x⟩] : List (View.Piece (Elt F) S10240x128 .f32)), y ∈ p.1.set := by
  have h0 : (y 0).val < 10240 := (y 0).isLt
  have h1 : (y 1).val < 128 := (y 1).isLt
  by_cases h : (y 0).val < 10000
  · refine ⟨_, List.mem_cons_of_mem _ (List.mem_singleton_self _), ?_⟩
    rw [Rect.mem_set_unit]; intro a
    fin_cases a
    · exact ⟨Nat.zero_le _, by show (y 0).val < 0 + 10000; omega⟩
    · exact ⟨Nat.zero_le _, by show (y 1).val < 0 + 128; omega⟩
  · refine ⟨_, List.mem_cons_self, ?_⟩
    rw [Rect.mem_set_unit]; intro a
    fin_cases a
    · exact ⟨by show 10000 ≤ (y 0).val; omega, by show (y 0).val < 10000 + 240; omega⟩
    · exact ⟨Nat.zero_le _, by show (y 1).val < 0 + 128; omega⟩

/-- A padded buffer just filled reads as `padded`. -/
theorem read_pads {sp : Space} {m : Memref sig .tc sp S10240x128 .f32} (f : m.view.ty.Contents (Elt F)) (x : Vec F S10000x128 .f32) :
    m.view.read (Elt F) (m.view.writes (Elt F) f [⟨rTail, k0_pay2 (F := F)⟩, ⟨rTop, k0_pay1 x⟩]) = padded x :=
  View.read_writes_eq_canon _ _ _ (pads_cover x)

/-- A load from a padded buffer just filled reads `padded`. -/
theorem load_pads {sp : Space} {m : Memref sig .tc sp S10240x128 .f32} (x : Vec F S10000x128 .f32) (off off' : Fin 2 → Nat) {n : Fin 2 → Nat}
    (inb : ∀ a, off a + n a ≤ S10240x128.size a) (inb' : ∀ a, off' a + n a ≤ S10240x128.size a) (e : off = off') :
    m.view.readCov (Val := Elt F) [⟨rTail, k0_pay2 (F := F)⟩, ⟨rTop, k0_pay1 x⟩] (Rect.unit (s := S10240x128) off n inb).toLoadRect
      = View.ld (padded x) (Rect.unit (s := S10240x128) off' n inb') := by
  subst e; exact View.readCov_eq_canon_ld _ _ _ (pads_cover x)

/-- The same load, the piece list as the body's stores leave it. -/
theorem loadPads {sp : Space} {m : Memref sig .tc sp S10240x128 .f32} (x : Vec F S10000x128 .f32) (i : grid0.Coords) (off inb)
    (e : off = ![2048 * (i 3).val, 0]) :
    m.view.readCov (Val := Elt F) [⟨Rect.unit (s := S10240x128) ![10000, 0] S240x128.size inb_S10240x128_S240x128_10000_0, k0_pay2 (F := F)⟩, ⟨Rect.unit (s := S10240x128) ![0, 0] S10000x128.size inb_S10240x128_S10000x128_0_0, k0_pay1 x⟩]
        (Rect.unit (s := S10240x128) off S2048x128.size inb).toLoadRect
      = View.ld (padded x) (rK i) := load_pads x _ _ inb (inbK i) e

/-- The grid points' cases: the hop, the direction, whether the column block is the first, a middle or the last one, and whether the row block is the first. -/
theorem point_cases (i : grid0.Coords) :
    ((((i 0).val = 0) = True ∧ ((i 0).val = 1) = False) ∨ (((i 0).val = 0) = False ∧ ((i 0).val = 1) = True))
    ∧ ((((i 1).val = 0) = True ∧ ((i 1).val = 1) = False) ∨ (((i 1).val = 0) = False ∧ ((i 1).val = 1) = True))
    ∧ ((((i 3).val = 0) = True ∧ (0 < (i 3).val) = False ∧ ((i 3).val < 4) = True ∧ ((i 3).val = 4) = False)
      ∨ (((i 3).val = 0) = False ∧ (0 < (i 3).val) = True ∧ ((i 3).val < 4) = True ∧ ((i 3).val = 4) = False)
      ∨ (((i 3).val = 0) = False ∧ (0 < (i 3).val) = True ∧ ((i 3).val < 4) = False ∧ ((i 3).val = 4) = True))
    ∧ (((i 2).val = 0) = True ∨ ((i 2).val = 0) = False) := by
  have h0 : (i 0).val < 2 := (i 0).isLt
  have h1 : (i 1).val < 2 := (i 1).isLt
  have h3 : (i 3).val < 5 := (i 3).isLt
  simp only [eq_iff_iff, iff_true, iff_false]
  omega

/-! ## The triple -/

/-- The body's twelve buffers, owned whole, holding `X`. -/
def held (c : Dev nD) (arg4 : Memref sig .tc .vmem S1024x2048 .f32) (arg5 : Memref sig .tc .vmem S1024x2048 .f32) (arg6 : Memref sig .tc .vmem S10000x128 .f32) (arg7 : Memref sig .tc .vmem S10000x128 .f32) (arg8 : Memref sig .tc .smem S3x1 .f32) (arg9 : Memref sig .tc .smem S3x1 .f32) (arg10 : Memref sig .tc .vmem S1024x128 .f32) (arg11 : Memref sig .tc .vmem S1024x128 .f32) (arg12 : Memref sig .tc .vmem S10240x128 .f32) (arg13 : Memref sig .tc .vmem S10240x128 .f32) (arg14 : Memref sig .tc .vmem S10240x128 .f32) (arg15 : Memref sig .tc .vmem S10240x128 .f32) (X : Conts F) : sProp 𝕄 :=
  iprop(owns (c : Thread nD τ) arg4 fullShare X.a0 ∗ owns (c : Thread nD τ) arg5 fullShare X.a1 ∗ owns (c : Thread nD τ) arg6 fullShare X.x2 ∗ owns (c : Thread nD τ) arg7 fullShare X.x3 ∗ owns (c : Thread nD τ) arg8 fullShare X.w4 ∗ owns (c : Thread nD τ) arg9 fullShare X.w5 ∗ owns (c : Thread nD τ) arg10 fullShare X.o ∗ owns (c : Thread nD τ) arg11 fullShare X.acc ∗ owns (c : Thread nD τ) arg12 fullShare X.ys ∗ owns (c : Thread nD τ) arg13 fullShare X.yt ∗ owns (c : Thread nD τ) arg14 fullShare X.xs ∗ owns (c : Thread nD τ) arg15 fullShare X.xt)

/-- Run at grid point `i` on whole buffers holding `X`, the body leaves them holding `next i X`. -/
theorem body_step (c : Dev nD) (E : Set ℕ) (i : grid0.Coords) (arg4 : Memref sig .tc .vmem S1024x2048 .f32) (harg4 : arg4.IsWhole) (arg5 : Memref sig .tc .vmem S1024x2048 .f32) (harg5 : arg5.IsWhole) (arg6 : Memref sig .tc .vmem S10000x128 .f32) (harg6 : arg6.IsWhole) (arg7 : Memref sig .tc .vmem S10000x128 .f32) (harg7 : arg7.IsWhole) (arg8 : Memref sig .tc .smem S3x1 .f32) (harg8 : arg8.IsWhole) (arg9 : Memref sig .tc .smem S3x1 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S10240x128 .f32) (harg12 : arg12.IsWhole) (arg13 : Memref sig .tc .vmem S10240x128 .f32) (harg13 : arg13.IsWhole) (arg14 : Memref sig .tc .vmem S10240x128 .f32) (harg14 : arg14.IsWhole) (arg15 : Memref sig .tc .vmem S10240x128 .f32) (harg15 : arg15.IsWhole)
    (X : Conts F) (K : PUnit → sProp 𝕄) :
    iprop(held c arg4 arg5 arg6 arg7 arg8 arg9 arg10 arg11 arg12 arg13 arg14 arg15 X ∗ (held c arg4 arg5 arg6 arg7 arg8 arg9 arg10 arg11 arg12 arg13 arg14 arg15 (next i X) -∗ K ⟨⟩))
      ⊢ wp frame (wpE (defs₀ (F := F)) Variants.none c none) E (cc0__body i arg4 harg4 arg5 harg5 arg6 harg6 arg7 harg7 arg8 harg8 arg9 harg9 arg10 harg10 arg11 harg11 arg12 harg12 arg13 harg13 arg14 harg14 arg15 harg15) K := by
  obtain ⟨hp, hm, hk, h2⟩ := point_cases i
  have q1 := cond1_iff i
  have q2 := cond2_iff i
  have q3 := cond3_iff i
  have q4 := cond4_iff i
  have q5 := cond5_iff i
  have q6 := cond6_iff i
  have q7 := cond7_iff i
  have q8 := cond8_iff i
  have q9 := cond9_iff i
  have q10 := cond10_iff i
  have q11 := cond11_iff i
  have q12 := cond12_iff i
  have q13 := cond13_iff i
  have q14 := cond14_iff i
  have q15 := cond15_iff i
  have q16 := cond16_iff i
  have q17 := cond17_iff i
  simp only [cc0__body_eq_skeleton]; unfold cc0__body_skel held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9; obtain rfl := harg14.eq_unread hf10; obtain rfl := harg15.eq_unread hf11
  rcases hp with ⟨p0, p1⟩ | ⟨p0, p1⟩ <;> rcases hm with ⟨m0, m1⟩ | ⟨m0, m1⟩ <;> rcases hk with ⟨k0, kg, kl, k4⟩ | ⟨k0, kg, kl, k4⟩ | ⟨k0, kg, kl, k4⟩ <;> rcases h2 with h2 | h2
  all_goals
    simp only [p0, p1, m0, m1, k0, kg, kl, k4, h2, _root_.and_true, _root_.true_and, _root_.and_false, _root_.false_and, iff_true, iff_false] at q1 q2 q3 q4 q5 q6 q7 q8 q9 q10 q11 q12 q13 q14 q15 q16 q17
    sl_exec
    sl_step
    iapply Hk
    isplitl [H0]
    · iexists _; isplitr; swap; · iexact H0
      ipureintro; simp only [Memref.IsWhole.read_unread, read_store_whole, storeI _ _ i, read_pads, load_whole, loadK _ _ i, loadI _ _ i, loadPads _ i, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay3_eq, pay4_eq, pay8_eq, pay9_eq, pay10_eq, pay14_eq, pay15_eq, pay16_eq, next, hop1s, hop1t, hop2s, hop2t, fillPads, acc1, acc2, prod1, out2, p0, m0, k0, kl, k4, h2, _root_.and_true, _root_.true_and, _root_.and_false, _root_.false_and, if_true, if_false] <;> (sl_unfold_words; (try simp only [load_word, load_whole, pay3_eq, pay4_eq]) <;> first | rfl | exact read_pads _ _ | exact congrArg (k0_pay5 X.a0) (load_pads _ _ _ _ (inbK i) (k0_off1_eq i)))
    isplitl [H1]
    · iexists _; isplitr; swap; · iexact H1
      ipureintro; simp only [Memref.IsWhole.read_unread, read_store_whole, storeI _ _ i, read_pads, load_whole, loadK _ _ i, loadI _ _ i, loadPads _ i, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay3_eq, pay4_eq, pay8_eq, pay9_eq, pay10_eq, pay14_eq, pay15_eq, pay16_eq, next, hop1s, hop1t, hop2s, hop2t, fillPads, acc1, acc2, prod1, out2, p0, m0, k0, kl, k4, h2, _root_.and_true, _root_.true_and, _root_.and_false, _root_.false_and, if_true, if_false] <;> (sl_unfold_words; (try simp only [load_word, load_whole, pay3_eq, pay4_eq]) <;> first | rfl | exact read_pads _ _ | exact congrArg (k0_pay5 X.a0) (load_pads _ _ _ _ (inbK i) (k0_off1_eq i)))
    isplitl [H2]
    · iexists _; isplitr; swap; · iexact H2
      ipureintro; simp only [Memref.IsWhole.read_unread, read_store_whole, storeI _ _ i, read_pads, load_whole, loadK _ _ i, loadI _ _ i, loadPads _ i, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay3_eq, pay4_eq, pay8_eq, pay9_eq, pay10_eq, pay14_eq, pay15_eq, pay16_eq, next, hop1s, hop1t, hop2s, hop2t, fillPads, acc1, acc2, prod1, out2, p0, m0, k0, kl, k4, h2, _root_.and_true, _root_.true_and, _root_.and_false, _root_.false_and, if_true, if_false] <;> (sl_unfold_words; (try simp only [load_word, load_whole, pay3_eq, pay4_eq]) <;> first | rfl | exact read_pads _ _ | exact congrArg (k0_pay5 X.a0) (load_pads _ _ _ _ (inbK i) (k0_off1_eq i)))
    isplitl [H3]
    · iexists _; isplitr; swap; · iexact H3
      ipureintro; simp only [Memref.IsWhole.read_unread, read_store_whole, storeI _ _ i, read_pads, load_whole, loadK _ _ i, loadI _ _ i, loadPads _ i, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay3_eq, pay4_eq, pay8_eq, pay9_eq, pay10_eq, pay14_eq, pay15_eq, pay16_eq, next, hop1s, hop1t, hop2s, hop2t, fillPads, acc1, acc2, prod1, out2, p0, m0, k0, kl, k4, h2, _root_.and_true, _root_.true_and, _root_.and_false, _root_.false_and, if_true, if_false] <;> (sl_unfold_words; (try simp only [load_word, load_whole, pay3_eq, pay4_eq]) <;> first | rfl | exact read_pads _ _ | exact congrArg (k0_pay5 X.a0) (load_pads _ _ _ _ (inbK i) (k0_off1_eq i)))
    isplitl [H4]
    · iexists _; isplitr; swap; · iexact H4
      ipureintro; simp only [Memref.IsWhole.read_unread, read_store_whole, storeI _ _ i, read_pads, load_whole, loadK _ _ i, loadI _ _ i, loadPads _ i, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay3_eq, pay4_eq, pay8_eq, pay9_eq, pay10_eq, pay14_eq, pay15_eq, pay16_eq, next, hop1s, hop1t, hop2s, hop2t, fillPads, acc1, acc2, prod1, out2, p0, m0, k0, kl, k4, h2, _root_.and_true, _root_.true_and, _root_.and_false, _root_.false_and, if_true, if_false] <;> (sl_unfold_words; (try simp only [load_word, load_whole, pay3_eq, pay4_eq]) <;> first | rfl | exact read_pads _ _ | exact congrArg (k0_pay5 X.a0) (load_pads _ _ _ _ (inbK i) (k0_off1_eq i)))
    isplitl [H5]
    · iexists _; isplitr; swap; · iexact H5
      ipureintro; simp only [Memref.IsWhole.read_unread, read_store_whole, storeI _ _ i, read_pads, load_whole, loadK _ _ i, loadI _ _ i, loadPads _ i, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay3_eq, pay4_eq, pay8_eq, pay9_eq, pay10_eq, pay14_eq, pay15_eq, pay16_eq, next, hop1s, hop1t, hop2s, hop2t, fillPads, acc1, acc2, prod1, out2, p0, m0, k0, kl, k4, h2, _root_.and_true, _root_.true_and, _root_.and_false, _root_.false_and, if_true, if_false] <;> (sl_unfold_words; (try simp only [load_word, load_whole, pay3_eq, pay4_eq]) <;> first | rfl | exact read_pads _ _ | exact congrArg (k0_pay5 X.a0) (load_pads _ _ _ _ (inbK i) (k0_off1_eq i)))
    isplitl [H6]
    · iexists _; isplitr; swap; · iexact H6
      ipureintro; simp only [Memref.IsWhole.read_unread, read_store_whole, storeI _ _ i, read_pads, load_whole, loadK _ _ i, loadI _ _ i, loadPads _ i, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay3_eq, pay4_eq, pay8_eq, pay9_eq, pay10_eq, pay14_eq, pay15_eq, pay16_eq, next, hop1s, hop1t, hop2s, hop2t, fillPads, acc1, acc2, prod1, out2, p0, m0, k0, kl, k4, h2, _root_.and_true, _root_.true_and, _root_.and_false, _root_.false_and, if_true, if_false] <;> (sl_unfold_words; (try simp only [load_word, load_whole, pay3_eq, pay4_eq]) <;> first | rfl | exact read_pads _ _ | exact congrArg (k0_pay5 X.a0) (load_pads _ _ _ _ (inbK i) (k0_off1_eq i)))
    isplitl [H7]
    · iexists _; isplitr; swap; · iexact H7
      ipureintro; simp only [Memref.IsWhole.read_unread, read_store_whole, storeI _ _ i, read_pads, load_whole, loadK _ _ i, loadI _ _ i, loadPads _ i, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay3_eq, pay4_eq, pay8_eq, pay9_eq, pay10_eq, pay14_eq, pay15_eq, pay16_eq, next, hop1s, hop1t, hop2s, hop2t, fillPads, acc1, acc2, prod1, out2, p0, m0, k0, kl, k4, h2, _root_.and_true, _root_.true_and, _root_.and_false, _root_.false_and, if_true, if_false] <;> (sl_unfold_words; (try simp only [load_word, load_whole, pay3_eq, pay4_eq]) <;> first | rfl | exact read_pads _ _ | exact congrArg (k0_pay5 X.a0) (load_pads _ _ _ _ (inbK i) (k0_off1_eq i)))
    isplitl [H8]
    · iexists _; isplitr; swap; · iexact H8
      ipureintro; simp only [Memref.IsWhole.read_unread, read_store_whole, storeI _ _ i, read_pads, load_whole, loadK _ _ i, loadI _ _ i, loadPads _ i, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay3_eq, pay4_eq, pay8_eq, pay9_eq, pay10_eq, pay14_eq, pay15_eq, pay16_eq, next, hop1s, hop1t, hop2s, hop2t, fillPads, acc1, acc2, prod1, out2, p0, m0, k0, kl, k4, h2, _root_.and_true, _root_.true_and, _root_.and_false, _root_.false_and, if_true, if_false] <;> (sl_unfold_words; (try simp only [load_word, load_whole, pay3_eq, pay4_eq]) <;> first | rfl | exact read_pads _ _ | exact congrArg (k0_pay5 X.a0) (load_pads _ _ _ _ (inbK i) (k0_off1_eq i)))
    isplitl [H9]
    · iexists _; isplitr; swap; · iexact H9
      ipureintro; simp only [Memref.IsWhole.read_unread, read_store_whole, storeI _ _ i, read_pads, load_whole, loadK _ _ i, loadI _ _ i, loadPads _ i, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay3_eq, pay4_eq, pay8_eq, pay9_eq, pay10_eq, pay14_eq, pay15_eq, pay16_eq, next, hop1s, hop1t, hop2s, hop2t, fillPads, acc1, acc2, prod1, out2, p0, m0, k0, kl, k4, h2, _root_.and_true, _root_.true_and, _root_.and_false, _root_.false_and, if_true, if_false] <;> (sl_unfold_words; (try simp only [load_word, load_whole, pay3_eq, pay4_eq]) <;> first | rfl | exact read_pads _ _ | exact congrArg (k0_pay5 X.a0) (load_pads _ _ _ _ (inbK i) (k0_off1_eq i)))
    isplitl [H10]
    · iexists _; isplitr; swap; · iexact H10
      ipureintro; simp only [Memref.IsWhole.read_unread, read_store_whole, storeI _ _ i, read_pads, load_whole, loadK _ _ i, loadI _ _ i, loadPads _ i, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay3_eq, pay4_eq, pay8_eq, pay9_eq, pay10_eq, pay14_eq, pay15_eq, pay16_eq, next, hop1s, hop1t, hop2s, hop2t, fillPads, acc1, acc2, prod1, out2, p0, m0, k0, kl, k4, h2, _root_.and_true, _root_.true_and, _root_.and_false, _root_.false_and, if_true, if_false] <;> (sl_unfold_words; (try simp only [load_word, load_whole, pay3_eq, pay4_eq]) <;> first | rfl | exact read_pads _ _ | exact congrArg (k0_pay5 X.a0) (load_pads _ _ _ _ (inbK i) (k0_off1_eq i)))
    · iexists _; isplitr; swap; · iexact H11
      ipureintro; simp only [Memref.IsWhole.read_unread, read_store_whole, storeI _ _ i, read_pads, load_whole, loadK _ _ i, loadI _ _ i, loadPads _ i, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay3_eq, pay4_eq, pay8_eq, pay9_eq, pay10_eq, pay14_eq, pay15_eq, pay16_eq, next, hop1s, hop1t, hop2s, hop2t, fillPads, acc1, acc2, prod1, out2, p0, m0, k0, kl, k4, h2, _root_.and_true, _root_.true_and, _root_.and_false, _root_.false_and, if_true, if_false] <;> (sl_unfold_words; (try simp only [load_word, load_whole, pay3_eq, pay4_eq]) <;> first | rfl | exact read_pads _ _ | exact congrArg (k0_pay5 X.a0) (load_pads _ _ _ _ (inbK i) (k0_off1_eq i)))

end Cert.KernelIdeal.Hand

end
-- ==== Proof.Run.lean ====
/-
  The kernel's run at any float instance, tracking an invariant of the five scratch buffers and a predicate of the
  output blocks: given that each grid point's step keeps the invariant and stores a block meeting the predicate, the run
  terminates with the argument arrays unchanged and the output written back from blocks meeting the predicate.
-/
module

public import proofs.«01_k».proof.Proof.Body
public import proofs.«01_k».proof.Proof.Gen.KernelIdeal.Frame
public import Idealize.ShloMosaic.Lib.Pipeline.DatRel
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel cellOf)
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- A predicate of the scratch buffers' contents before each point. -/
abbrev Track (F : FTy → Type) [FloatOps F] : Type :=
  Dev nD → ℕ → Vec F S1024x128 .f32 → Vec F S10240x128 .f32 → Vec F S10240x128 .f32 → Vec F S10240x128 .f32 → Vec F S10240x128 .f32 → Prop

/-- A predicate of the output block that each point leaves. -/
abbrev Leave (F : FTy → Type) [FloatOps F] : Type := Dev nD → Fin cfg0.N → Vec F S1024x128 .f32 → Prop

variable (Inv : Track F) (Rl : Leave F)

/-- The scratch buffers at contents that meet the invariant, and the generator register at some state. -/
def Phi (c : Dev nD) (n : ℕ) : sProp 𝕄 :=
  iprop((∃ acc ys yt xs xt, ⌜Inv c n acc ys yt xs xt⌝
      ∗ owns (c : Thread nD τ) (Memref.whole cc0_scratch0) fullShare acc ∗ owns (c : Thread nD τ) (Memref.whole cc0_scratch1) fullShare ys
      ∗ owns (c : Thread nD τ) (Memref.whole cc0_scratch2) fullShare yt ∗ owns (c : Thread nD τ) (Memref.whole cc0_scratch3) fullShare xs
      ∗ owns (c : Thread nD τ) (Memref.whole cc0_scratch4) fullShare xt) ∗ ∃ r, prngReg c r)

/-- The output window is held to a predicate; what the body leaves in it is named nowhere else. -/
def fgt : Fin 7 → Bool := fun w => w.val == 6

/-- What a matrix window's buffer holds at point `t`: its block of the matrix over `d` in the part that overhangs it. -/
def blk0 (c : Dev nD) (t : Fin cfg0.N) (d : Vec F S1024x2048 .f32) : Vec F S1024x2048 .f32 := win0_0.fill (grid0.coords t) d (iblk m c 0 t)
def blk1 (c : Dev nD) (t : Fin cfg0.N) (d : Vec F S1024x2048 .f32) : Vec F S1024x2048 .f32 := win0_1.fill (grid0.coords t) d (iblk m c 1 t)

/-- A default for the part of a matrix window's buffer that no transfer fills. -/
def junk : Vec F S1024x2048 .f32 := fun _ => Classical.choice ((inferInstance : ∀ e, Nonempty (Elt F e)) .f32)

/-- The pipeline's proof data: the arrays as the region finds them, each input buffer left at its block. -/
def dats (_ : Fin 1) (c : Dev nD) : Dat τ (Elt F) Unit ℕ (UR sig nD τ) ℕ cfg0 c where
  A w := V m c (Pipeline.arrRef spec0 w)
  after w t := match w with
    | ⟨0, _⟩ => blk0 m c t junk
    | ⟨1, _⟩ => blk1 m c t junk
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := Phi Inv c t.val
  q _ := fullShare
  owed _ := 0

theorem A_eq (c : Dev nD) (w : Fin cfg0.W) : (dats m Inv 0 c).A w = V m c (Pipeline.arrRef spec0 w) := by dsimp only [dats]

theorem after0 (c : Dev nD) (t : Fin cfg0.N) : (dats m Inv 0 c).after 0 t = blk0 m c t junk := by dsimp only [dats]
theorem after1 (c : Dev nD) (t : Fin cfg0.N) : (dats m Inv 0 c).after 1 t = blk1 m c t junk := by dsimp only [dats]
theorem after2 (c : Dev nD) (t : Fin cfg0.N) : (dats m Inv 0 c).after 2 t = iblk m c 2 t := by dsimp only [dats]
theorem after3 (c : Dev nD) (t : Fin cfg0.N) : (dats m Inv 0 c).after 3 t = iblk m c 3 t := by dsimp only [dats]
theorem after4 (c : Dev nD) (t : Fin cfg0.N) : (dats m Inv 0 c).after 4 t = iblk m c 4 t := by dsimp only [dats]
theorem after5 (c : Dev nD) (t : Fin cfg0.N) : (dats m Inv 0 c).after 5 t = iblk m c 5 t := by dsimp only [dats]

/-- A matrix window's buffer holds its block, whether the point fetches it or not. -/
theorem before0 (c : Dev nD) (t : Fin cfg0.N) (d) : (dats m Inv 0 c).before 0 t d = blk0 m c t d :=
  ((dats m Inv 0 c).before_in_eq_fetched 0 rfl (fun _ => rfl)
      (fun t t' h => funext fun a => congrArg (fun n => Pipeline.Clip.of n (S1024x2048.size a) (S10000x10000.size a)) (congrFun h a))
      (fun t => by rw [after0]; unfold blk0; rw [Pipeline.Window.cut_fill]; rfl) t d).trans rfl
theorem before1 (c : Dev nD) (t : Fin cfg0.N) (d) : (dats m Inv 0 c).before 1 t d = blk1 m c t d :=
  ((dats m Inv 0 c).before_in_eq_fetched 1 rfl (fun _ => rfl)
      (fun t t' h => funext fun a => congrArg (fun n => Pipeline.Clip.of n (S1024x2048.size a) (S10000x10000.size a)) (congrFun h a))
      (fun t => by rw [after1]; unfold blk1; rw [Pipeline.Window.cut_fill]; rfl) t d).trans rfl
theorem before2 (c : Dev nD) (t : Fin cfg0.N) (d) : (dats m Inv 0 c).before 2 t d = iblk m c 2 t := before0_2_of m _ (A_eq m Inv c 2) (after2 m Inv c) t d
theorem before3 (c : Dev nD) (t : Fin cfg0.N) (d) : (dats m Inv 0 c).before 3 t d = iblk m c 3 t := before0_3_of m _ (A_eq m Inv c 3) (after3 m Inv c) t d
theorem before4 (c : Dev nD) (t : Fin cfg0.N) (d) : (dats m Inv 0 c).before 4 t d = iblk m c 4 t := before0_4_of m _ (A_eq m Inv c 4) (after4 m Inv c) t d
theorem before5 (c : Dev nD) (t : Fin cfg0.N) (d) : (dats m Inv 0 c).before 5 t d = iblk m c 5 t := before0_5_of m _ (A_eq m Inv c 5) (after5 m Inv c) t d

/-- The buffers' contents when the body is entered at point `t`. -/
def entry (c : Dev nD) (t : Fin cfg0.N) (d0 d1 : Vec F S1024x2048 .f32) (o acc : Vec F S1024x128 .f32) (ys yt xs xt : Vec F S10240x128 .f32) : Conts F where
  a0 := blk0 m c t d0
  a1 := blk1 m c t d1
  x2 := iblk m c 2 t
  x3 := iblk m c 3 t
  w4 := iblk m c 4 t
  w5 := iblk m c 5 t
  o := o
  acc := acc
  ys := ys
  yt := yt
  xs := xs
  xt := xt

/-- Each point's step keeps the invariant and leaves an output block that meets the predicate. -/
def Keeps : Prop :=
  ∀ (c : Dev nD) (t : Fin cfg0.N) d0 d1 o acc ys yt xs xt, Inv c t.val acc ys yt xs xt →
    Inv c (t.val + 1) (next (grid0.coords t) (entry m c t d0 d1 o acc ys yt xs xt)).acc (next (grid0.coords t) (entry m c t d0 d1 o acc ys yt xs xt)).ys
        (next (grid0.coords t) (entry m c t d0 d1 o acc ys yt xs xt)).yt (next (grid0.coords t) (entry m c t d0 d1 o acc ys yt xs xt)).xs
        (next (grid0.coords t) (entry m c t d0 d1 o acc ys yt xs xt)).xt
      ∧ Rl c t (next (grid0.coords t) (entry m c t d0 d1 o acc ys yt xs xt)).o

/-- The predicate of the output window, at the window's own type; the other windows are not held to it. -/
def Rw (c : Dev nD) : (w : Fin cfg0.W) → Fin cfg0.N → ((cfg0.win w).block.Idx → Elt F (cfg0.win w).elt) → Prop
  | ⟨6, _⟩, t, X => Rl c t X
  | _, _, _ => True

/-- No step changes an input window's buffer. -/
theorem next_inputs (i : grid0.Coords) (X : Conts F) :
    (next i X).a0 = X.a0 ∧ (next i X).a1 = X.a1 ∧ (next i X).x2 = X.x2 ∧ (next i X).x3 = X.x3 ∧ (next i X).w4 = X.w4 ∧ (next i X).w5 = X.w5 := by
  unfold next hop1s hop1t hop2s hop2t fillPads
  split <;> split <;> (try split) <;> exact ⟨rfl, rfl, rfl, rfl, rfl, rfl⟩

theorem body_row (t : Fin cfg0.N) : defs₀ (F := F) .tc cfg0.body (cfg0.bodyArgs t (cfg0.slots t)) = bodyAt0 t := by
  unfold defs₀; rw [Defs.onTc_tc]

set_option maxHeartbeats 2000000 in
/-- The body obligation of the pipeline. -/
theorem obligation (h : Keeps m Inv Rl) (c : Dev nD) :
    BodyObligationRel (dats m Inv 0 c) (defs₀ (F := F)) Variants.none () Set.univ fgt (Rw Rl c) := by
  intro t
  rw [bigSep_W0, bigSep_W0, body_row]
  simp only [show fgt 0 = false from rfl, show fgt 1 = false from rfl, show fgt 2 = false from rfl, show fgt 3 = false from rfl,
    show fgt 4 = false from rfl, show fgt 5 = false from rfl, show fgt 6 = true from rfl,
    before0, before1, before2, before3, before4, before5, after2, after3, after4, after5, after0, after1]
  iintro ⟨HΦ, Ho, ⟨%d0, H0⟩, ⟨%d1, H1⟩, ⟨%d2, H2⟩, ⟨%d3, H3⟩, ⟨%d4, H4⟩, ⟨%d5, H5⟩, ⟨%d6, -, H6⟩⟩
  ihave HΦ := (show (dats m Inv 0 c).Φ t.castSucc ⊢ Phi Inv c t.val from .rfl) $$ HΦ
  unfold Phi
  icases HΦ with ⟨⟨%acc, %ys, %yt, %xs, %xt, %hI, S0, S1, S2, S3, S4⟩, Hg⟩
  obtain ⟨hI', hR⟩ := h c t d0 d1 d6 acc ys yt xs xt hI
  iapply body_step c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (entry m c t d0 d1 d6 acc ys yt xs xt)
  unfold held
  obtain ⟨e0, e1, e2, e3, e4, e5⟩ := next_inputs (grid0.coords t) (entry m c t d0 d1 d6 acc ys yt xs xt)
  rw [e0, e1, e2, e3, e4, e5]
  isplitl [H0 H1 H2 H3 H4 H5 H6 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    iexact S4
  iintro ⟨H0, H1, H2, H3, H4, H5, H6, S0, S1, S2, S3, S4⟩
  isplitl [Hg S0 S1 S2 S3 S4]
  · iapply (show Phi Inv c (t.val + 1) ⊢ (dats m Inv 0 c).Φ t.succ from .rfl)
    unfold Phi
    isplitl [S0 S1 S2 S3 S4]
    · iexists _, _, _, _, _
      isplitr; · ipureintro; exact hI'
      isplitl [S0]; · iexact S0
      isplitl [S1]; · iexact S1
      isplitl [S2]; · iexact S2
      isplitl [S3]; · iexact S3
      iexact S4
    · iexact Hg
  isplitl [Ho]; · iexact Ho
  isplitl [H0]
  · iexists d0
    unfold blk0; rw [Pipeline.Window.cut_fill]; iexact H0
  isplitl [H1]
  · iexists d1
    unfold blk1; rw [Pipeline.Window.cut_fill]; iexact H1
  isplitl [H2]; · iexact H2
  isplitl [H3]; · iexact H3
  isplitl [H4]; · iexact H4
  isplitl [H5]; · iexact H5
  iexists _
  isplitr; swap; · iexact H6
  ipureintro; exact hR

/-- The run: it terminates with every array as the proof data say and every counter at zero. -/
theorem run (hInv : ∀ c acc ys yt xs xt, Inv c 0 acc ys yt xs xt) (h : Keeps m Inv Rl) :
    θ_run defs (onTc (τ := τ) (main (F := F))) ⟨m, fun _ => 0, ρ⟩
      (fun r => Pipeline.RDat.FramePost cfg0 (fun c => (dats m Inv 0 c).toRRel fgt (Rw Rl c)) (V m) r ∧ r.2.sem = fun _ => 0) :=
  Pipeline.RDat.θ_run_frame_track cfgs (0 : Fin 1) launch0 defs₀ Variants.none (fun c => (dats m Inv 0 c).toRRel fgt (Rw Rl c)) m ρ main
    (fun c => (obligation m Inv Rl h c).toRRel) (fun c => (dats m Inv 0 c).share_full fun _ => rfl) (fun _ _ => rfl) (V m) (hmain m Variants.none)
    (fun c w => A_eq m Inv c w)
    (fun c => by
      show Pipeline.ΦA spec0 c ⊢ Phi Inv c 0
      unfold Pipeline.ΦA Phi
      rw [scopedRest0_eq]
      iintro ⟨⟨⟨%f0, S0⟩, ⟨%f1, S1⟩, ⟨%f2, S2⟩, ⟨%f3, S3⟩, ⟨%f4, S4⟩⟩, Hg⟩
      isplitl [S0 S1 S2 S3 S4]
      · iexists f0, f1, f2, f3, f4
        isplitr; · ipureintro; exact hInv c _ _ _ _ _
        simp only [owns_whole]
        isplitl [S0]; · iexact S0
        isplitl [S1]; · iexact S1
        isplitl [S2]; · iexact S2
        isplitl [S3]; · iexact S3
        iexact S4
      · iexact Hg)
    (fun c => by
      show Phi Inv c 200 ⊢ Pipeline.ΦA spec0 c
      unfold Pipeline.ΦA Phi
      rw [scopedRest0_eq]
      simp only [owns_whole]
      iintro ⟨⟨%f0, %f1, %f2, %f3, %f4, -, S0, S1, S2, S3, S4⟩, Hg⟩
      isplitl [S0 S1 S2 S3 S4]
      · isplitl [S0]; · iexists f0; iexact S0
        isplitl [S1]; · iexists f1; iexact S1
        isplitl [S2]; · iexists f2; iexact S2
        isplitl [S3]; · iexists f3; iexact S3
        iexists f4; iexact S4
      · iexact Hg)
    _ (fun _ h => h)

/-- The argument arrays are unchanged by the run. -/
theorem args_kept {r : PUnit × MemSt nD τ sig (Elt F)}
    (h : Pipeline.RDat.FramePost cfg0 (fun c => (dats m Inv 0 c).toRRel fgt (Rw Rl c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨Pipeline.RDat.FramePost.arr_in h c 2 rfl, Pipeline.RDat.FramePost.arr_in h c 3 rfl, Pipeline.RDat.FramePost.arr_in h c 0 rfl,
    Pipeline.RDat.FramePost.arr_in h c 1 rfl, Pipeline.RDat.FramePost.arr_in h c 4 rfl, Pipeline.RDat.FramePost.arr_in h c 5 rfl⟩

/-- The frame: the run terminates with the argument arrays unchanged and every counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_kept m (fun _ _ _ _ _ _ _ => True) (fun _ _ _ => True) h.1 c, h.2⟩)
    (run m ρ (fun _ _ _ _ _ _ _ => True) (fun _ _ _ => True) (fun _ _ _ _ _ _ => trivial) (fun _ _ _ _ _ _ _ _ _ _ _ => ⟨trivial, trivial⟩))

end Cert.KernelIdeal.Hand

end
-- ==== Proof.Same.lean ====
/-
  The kernel read at machine floats is the same text as the kernel read at the extended reals, so its frame is the
  frame of `Run`, proved there at any float instance.
-/
module

public import proofs.«01_k».proof.Proof.Run
public import proofs.«01_k».proof.Defs
public import proofs.«01_k».proof.Proof.Gen.Kernel.Frame

@[expose] public section

set_option maxRecDepth 16384

namespace Cert.Proof

open Idealize.ShloMosaic Idealize.ShloMosaic.TcCoe

/-- The two printed programs have the same kernel body table. -/
theorem body_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l a
  obtain ⟨l, hl⟩ := l
  cases l with
  | zero => obtain ⟨t, s⟩ := a; rfl
  | succ n => exact absurd hl (by omega)

/-- The two printed programs have the same table of labels, the pipeline's included. -/
theorem defs_same : @Cert.Kernel.defs Bits _ Cert.Kernel.Gen.facts = @Cert.KernelIdeal.defs Bits _ Cert.KernelIdeal.Gen.facts := by
  unfold Cert.Kernel.defs Cert.KernelIdeal.defs
  exact congrArg (Pipeline.defs (@Cert.KernelIdeal.pcfgs Bits Cert.KernelIdeal.Gen.facts)) body_same

/-- The kernel at machine floats runs, ends with its arguments unchanged, and leaves every counter at zero. -/
theorem kernel_frame : @Cert.quiescent_Kernel Cert.Kernel.Gen.facts := fun m g _ => by
  rw [defs_same]
  exact Cert.KernelIdeal.Hand.frame_run (F := Bits) m g

/-- The kernel at the extended reals likewise. -/
theorem kernelIdeal_frame : @Cert.quiescent_KernelIdeal Cert.KernelIdeal.Gen.facts := fun m g _ =>
  Cert.KernelIdeal.Hand.frame_run (F := Ideal) m g

end Cert.Proof

end
-- ==== Proof.Ref.lean ====
/-
  The reference's run: it ends with its arguments unchanged, and, since it declares no semaphore, every counter at zero.
-/
module

public import proofs.«01_k».proof.Defs
public import proofs.«01_k».proof.Proof.Gen.ReferenceIdeal.Run
public import Idealize.ShloMosaic.Lib.Claim
public import Idealize.ShloMosaic.Lib.Quiescent

@[expose] public section

namespace Cert.Proof

open Idealize.ShloMosaic Idealize.ShloMosaic.TcCoe Idealize.SL.Sem

/-- The reference runs, ends with its arguments unchanged, and leaves every counter at zero. -/
theorem reference_frame : @Cert.quiescent_ReferenceIdeal Cert.ReferenceIdeal.Gen.facts := fun m g _ =>
  θ_run_mono (Cert.ReferenceIdeal.Value.run (F := Ideal) m g) fun r h =>
    ⟨fun c => (h c).2, sem_eq_zero_of_no_sems (by decide) r.2⟩

end Cert.Proof

end
-- ==== Proof.Blocks.lean ====
/-
  The arithmetic of one block over the extended reals: what each stored value is at row `r` and column `d`, with every
  array read at natural-number coordinates and as zero outside its extent.
-/
module

public import proofs.«01_k».proof.Proof.Step
public import Idealize.ShloMosaic.PureOps.Ideal
public import Idealize.ShloMosaic.Lib.MatmulPlain
public import Idealize.ShloMosaic.Lib.ValueIdxCore
public import Idealize.ShloMosaic.Lib.WordCmp
public import Idealize.ShloMosaic.Lib.Pipeline.Value

@[expose] public section

set_option maxRecDepth 16384

noncomputable section

namespace Cert.KernelIdeal.Hand

open Idealize.ShloMosaic Idealize.ShloMosaic.ValueIdx
open Cert.KernelIdeal Cert.KernelIdeal.Gen
open scoped BigOperators

/-- A two-axis array of extended reals at natural-number coordinates: zero outside the array. -/
def rd {n m : ℕ} (X : FVec Ideal ⟨2, ![n, m]⟩ .f32) (r c : ℕ) : EReal :=
  if h : r < n ∧ c < m then X (ix2 ⟨r, h.1⟩ ⟨c, h.2⟩) else 0

theorem rd_in {n m : ℕ} (X : FVec Ideal ⟨2, ![n, m]⟩ .f32) {r c : ℕ} (hr : r < n) (hc : c < m) :
    rd X r c = X (ix2 ⟨r, hr⟩ ⟨c, hc⟩) := dif_pos ⟨hr, hc⟩

theorem rd_ix {n m : ℕ} (X : FVec Ideal ⟨2, ![n, m]⟩ .f32) (j : (⟨2, ![n, m]⟩ : Shape).Idx) : X j = rd X (j 0).val (j 1).val := by
  rw [rd_in X (j 0).isLt (j 1).isLt]
  exact congrArg X (eq_ix2 j)

theorem rd_row {n m : ℕ} (X : FVec Ideal ⟨2, ![n, m]⟩ .f32) {r c : ℕ} (hr : n ≤ r) : rd X r c = 0 := dif_neg fun h => absurd h.1 (by omega)
theorem rd_col {n m : ℕ} (X : FVec Ideal ⟨2, ![n, m]⟩ .f32) {r c : ℕ} (hc : m ≤ c) : rd X r c = 0 := dif_neg fun h => absurd h.2 (by omega)

/-- Two arrays that read the same at every coordinate inside are equal. -/
theorem rd_ext {n m : ℕ} {X Y : FVec Ideal ⟨2, ![n, m]⟩ .f32} (h : ∀ r < n, ∀ c < m, rd X r c = rd Y r c) : X = Y :=
  funext fun j => by rw [rd_ix X, rd_ix Y]; exact h _ (j 0).isLt _ (j 1).isLt

/-- The product of a 1024 × 2048 block and a 2048 × 128 block, added to nothing. -/
def blockDot (a : FVec Ideal S1024x2048 .f32) (x : FVec Ideal S2048x128 .f32) : FVec Ideal S1024x128 .f32 :=
  matmul dot_S1024x2048_S2048x128_S1024x128_1_0_0_1_n_n none a x (constant S1024x128 .f32 0x00000000#32)

/-- A block product at an entry is the sum over the 2048 shared coordinates. -/
theorem rd_blockDot (a : FVec Ideal S1024x2048 .f32) (x : FVec Ideal S2048x128 .f32) (r d : ℕ) :
    rd (blockDot a x) r d = ∑ c ∈ Finset.range 2048, rd a r c * rd x c d := by
  by_cases h : r < 1024 ∧ d < 128
  · rw [rd_in _ h.1 h.2, Finset.sum_range]
    refine (Ideal.matmul_plain_apply (M := 1024) (K := 2048) (N := 128) none a x (constant S1024x128 .f32 0x00000000#32) ⟨r, h.1⟩ ⟨d, h.2⟩).trans ?_
    have hz : (constant S1024x128 .f32 0x00000000#32 : FVec Ideal S1024x128 .f32) (ix2 ⟨r, h.1⟩ ⟨d, h.2⟩) = (0 : EReal) := Ideal.ofBits_zero_f32
    rw [hz, zero_add]
    exact Finset.sum_congr rfl fun c _ => by rw [rd_in a h.1 c.isLt, rd_in x c.isLt h.2]
  · unfold rd
    rw [dif_neg h]
    refine (Finset.sum_eq_zero fun c _ => ?_).symm
    by_cases hr : r < 1024
    · rw [dif_neg (c := c < 2048 ∧ d < 128) (fun k => h ⟨hr, k.2⟩), mul_zero]
    · rw [dif_neg (c := r < 1024 ∧ c < 2048) (fun k => hr k.1), zero_mul]

theorem rd_add {n m : ℕ} (X Y : FVec Ideal ⟨2, ![n, m]⟩ .f32) (r c : ℕ) : rd (addf X Y) r c = rd X r c + rd Y r c := by
  unfold rd
  split
  · rfl
  · rw [add_zero]

theorem rd_scale {n m : ℕ} (w : EReal) (X : FVec Ideal ⟨2, ![n, m]⟩ .f32) (r c : ℕ) :
    rd (mulf (broadcast ⟨2, ![n, m]⟩ (w : Ideal .f32)) X) r c = w * rd X r c := by
  unfold rd
  split
  · rfl
  · rw [mul_zero]

/-- The right factor of the second hop: the weighted sum of an input block and a hop-1 block. -/
def mixed (u : EReal) (x : FVec Ideal S2048x128 .f32) (v : EReal) (y : FVec Ideal S2048x128 .f32) : FVec Ideal S2048x128 .f32 :=
  addf (mulf (broadcast S2048x128 (u : Ideal .f32)) x) (mulf (broadcast S2048x128 (v : Ideal .f32)) y)

theorem rd_mixed (u v : EReal) (x y : FVec Ideal S2048x128 .f32) (r c : ℕ) : rd (mixed u x v y) r c = u * rd x r c + v * rd y r c := by
  unfold mixed
  rw [rd_add, rd_scale, rd_scale]

/-- A matrix block with the columns past the matrix's last set to zero, as the last column block is used. -/
def maskedA (i : grid0.Coords) (a : FVec Ideal S1024x2048 .f32) : FVec Ideal S1024x2048 .f32 :=
  select (cmpi .slt (iota .tc S1024x2048 32 [1] iota_S1024x2048_d1_w32)
      (broadcast S1024x2048 (Scalar.subi 10000#32 (Scalar.muli (BitVec.ofNat 32 (i 3).val) 2048#32)))) a
    (broadcast S1024x2048 (Scalar.ofBits .f32 0x00000000#32))

/-- A hop-1 block with the rows past the matrix's last set to zero. -/
def maskedY (i : grid0.Coords) (y : FVec Ideal S1024x128 .f32) : FVec Ideal S1024x128 .f32 :=
  select (cmpi .slt (iota .tc S1024x128 32 [0] iota_S1024x128_d0_w32)
      (broadcast S1024x128 (Scalar.subi 10000#32 (Scalar.muli (BitVec.ofNat 32 (i 2).val) 1024#32)))) y
    (broadcast S1024x128 (Scalar.ofBits .f32 0x00000000#32))

theorem left_cols : ∀ k : Fin 5, Scalar.subi 10000#32 (Scalar.muli (BitVec.ofNat 32 k.val) 2048#32) = BitVec.ofNat 32 (10000 - 2048 * k.val) := by decide
theorem left_rows : ∀ k : Fin 10, Scalar.subi 10000#32 (Scalar.muli (BitVec.ofNat 32 k.val) 1024#32) = BitVec.ofNat 32 (10000 - 1024 * k.val) := by decide

/-- A bit select on the comparison of two small numbers is an `if`. -/
theorem select_lt {α : Type} {a b : ℕ} (ha : a < 2 ^ 31) (hb : b < 2 ^ 31) (x y : α) :
    Scalar.select (IntOp.cmpi .slt (BitVec.ofNat 32 a) (BitVec.ofNat 32 b)) x y = if a < b then x else y := by
  split
  · next h => rw [(WordCmp.cmpi_slt_ofNat_eq_one_iff ha hb).mpr h, select_one]
  · next h => rw [(WordCmp.cmpi_slt_ofNat_eq_zero_iff ha hb).mpr h, select_zero]

theorem rd_maskedA (i : grid0.Coords) (a : FVec Ideal S1024x2048 .f32) (r c : ℕ) :
    rd (maskedA i a) r c = if 2048 * (i 3).val + c < 10000 then rd a r c else 0 := by
  by_cases h : r < 1024 ∧ c < 2048
  · rw [rd_in _ h.1 h.2, rd_in _ h.1 h.2]
    have hk : (i 3).val < 5 := (i 3).isLt
    unfold maskedA
    rw [left_cols ⟨(i 3).val, hk⟩]
    show Scalar.select (IntOp.cmpi .slt (iota .tc S1024x2048 32 [1] iota_S1024x2048_d1_w32 (ix2 ⟨r, h.1⟩ ⟨c, h.2⟩)) (BitVec.ofNat 32 (10000 - 2048 * (i 3).val))) _ _ = _
    rw [iota_single_apply]
    refine (select_lt (a := c) (by omega) (by omega) _ _).trans ?_
    by_cases hc : 2048 * (i 3).val + c < 10000
    · rw [if_pos (by omega), if_pos hc]
    · rw [if_neg (by omega), if_neg hc]; exact Ideal.ofBits_zero_f32
  · unfold rd
    rw [dif_neg h, dif_neg h, ite_self]

theorem rd_maskedY (i : grid0.Coords) (y : FVec Ideal S1024x128 .f32) (r d : ℕ) :
    rd (maskedY i y) r d = if 1024 * (i 2).val + r < 10000 then rd y r d else 0 := by
  by_cases h : r < 1024 ∧ d < 128
  · rw [rd_in _ h.1 h.2, rd_in _ h.1 h.2]
    have hk : (i 2).val < 10 := (i 2).isLt
    unfold maskedY
    rw [left_rows ⟨(i 2).val, hk⟩]
    show Scalar.select (IntOp.cmpi .slt (iota .tc S1024x128 32 [0] iota_S1024x128_d0_w32 (ix2 ⟨r, h.1⟩ ⟨d, h.2⟩)) (BitVec.ofNat 32 (10000 - 1024 * (i 2).val))) _ _ = _
    rw [iota_single_apply]
    refine (select_lt (a := r) (by omega) (by omega) _ _).trans ?_
    by_cases hc : 1024 * (i 2).val + r < 10000
    · rw [if_pos (by omega), if_pos hc]
    · rw [if_neg (by omega), if_neg hc]; exact Ideal.ofBits_zero_f32
  · unfold rd
    rw [dif_neg h, dif_neg h, ite_self]

/-! The stored values are these functions. -/

theorem pay5_eq (a : FVec Ideal S1024x2048 .f32) (x : FVec Ideal S2048x128 .f32) : k0_pay5 (F := Ideal) a x = blockDot a x := shapeCast_self _ _
theorem pay6_eq (acc : FVec Ideal S1024x128 .f32) (a : FVec Ideal S1024x2048 .f32) (x : FVec Ideal S2048x128 .f32) :
    k0_pay6 (F := Ideal) acc a x = addf acc (blockDot a x) := shapeCast_self _ _
theorem pay7_eq (i : grid0.Coords) (acc : FVec Ideal S1024x128 .f32) (a : FVec Ideal S1024x2048 .f32) (x : FVec Ideal S2048x128 .f32) :
    k0_pay7 (F := Ideal) i acc a x = maskedY i (addf acc (blockDot (maskedA i a) x)) := shapeCast_self _ _
theorem pay11_eq (a : FVec Ideal S1024x2048 .f32) (u : EReal) (x : FVec Ideal S2048x128 .f32) (v : EReal) (y : FVec Ideal S2048x128 .f32) :
    k0_pay11 (F := Ideal) a u x v y = blockDot a (mixed u x v y) := shapeCast_self _ _
theorem pay12_eq (acc : FVec Ideal S1024x128 .f32) (a : FVec Ideal S1024x2048 .f32) (u : EReal) (x : FVec Ideal S2048x128 .f32) (v : EReal)
    (y : FVec Ideal S2048x128 .f32) : k0_pay12 (F := Ideal) acc a u x v y = addf acc (blockDot a (mixed u x v y)) := shapeCast_self _ _
theorem pay13_eq (i : grid0.Coords) (acc : FVec Ideal S1024x128 .f32) (a : FVec Ideal S1024x2048 .f32) (u : EReal) (x : FVec Ideal S2048x128 .f32)
    (v : EReal) (y : FVec Ideal S2048x128 .f32) (w : EReal) (xi : FVec Ideal S1024x128 .f32) :
    k0_pay13 (F := Ideal) i acc a u x v y w xi
      = addf (mulf (broadcast S1024x128 (w : Ideal .f32)) xi) (addf acc (blockDot (maskedA i a) (mixed u x v y))) := rfl

end Cert.KernelIdeal.Hand

end
-- ==== Proof.Reads.lean ====
/-
  What the buffers and their rectangles hold at natural-number coordinates: the loads from the padded buffers, the rows
  stored over one, the padded inputs, and the matrix blocks the pipeline fetches.
-/
module

public import proofs.«01_k».proof.Proof.Blocks
public import proofs.«01_k».proof.Proof.Run
public import Idealize.ShloMosaic.Lib.Pipeline.ValueKit.Geometry

@[expose] public section

set_option maxRecDepth 16384

noncomputable section

namespace Cert.KernelIdeal.Hand

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

theorem rd_ix' {n k : ℕ} (X : FVec Ideal ⟨2, ![n, k]⟩ .f32) (j : (⟨2, ![n, k]⟩ : Shape).Idx) {r c : ℕ} (hr : (j 0).val = r)
    (hc : (j 1).val = c) : X j = rd X r c := by rw [rd_ix X j, hr, hc]

/-- A load of `n` whole rows from row `o` on reads the array `o` rows further down. -/
theorem rd_ld {N M n o : ℕ} (X : FVec Ideal ⟨2, ![N, M]⟩ .f32) (h : ∀ a, (![o, 0] : Fin 2 → ℕ) a + (![n, M] : Fin 2 → ℕ) a ≤ (⟨2, ![N, M]⟩ : Shape).size a)
    {r : ℕ} (d : ℕ) (hr : r < n) :
    rd (n := n) (m := M) (View.ld (Val := Elt Ideal) (e' := .f32) X (Rect.unit (s := ⟨2, ![N, M]⟩) ![o, 0] ![n, M] h)) r d = rd X (o + r) d := by
  by_cases hd : d < M
  · rw [rd_in _ hr hd]
    exact rd_ix' X _ ((ValueKit.rect_emb_unit_val (s := ⟨2, ![N, M]⟩) _ _ h _ 0).trans rfl)
      ((ValueKit.rect_emb_unit_val (s := ⟨2, ![N, M]⟩) _ _ h _ 1).trans (Nat.zero_add _))
  · rw [rd_col _ (Nat.le_of_not_lt hd), rd_col _ (Nat.le_of_not_lt hd)]

/-- An array with `n` whole rows stored over it from row `o` on reads the stored rows there and is itself elsewhere. -/
theorem rd_overlay {N M n o : ℕ} (Y : FVec Ideal ⟨2, ![N, M]⟩ .f32) (P : FVec Ideal ⟨2, ![n, M]⟩ .f32)
    (h : ∀ a, (![o, 0] : Fin 2 → ℕ) a + (![n, M] : Fin 2 → ℕ) a ≤ (⟨2, ![N, M]⟩ : Shape).size a) {r : ℕ} (d : ℕ) (hr : r < N) :
    rd (n := N) (m := M) ((Rect.unit (s := ⟨2, ![N, M]⟩) ![o, 0] ![n, M] h).overlay (α := Elt Ideal .f32) Y P) r d
      = if o ≤ r ∧ r < o + n then rd P (r - o) d else rd Y r d := by
  by_cases hd : d < M
  · rw [rd_in _ hr hd]
    split
    · next hi =>
      have hlt : r - o < n := by omega
      have he : (ix2 ⟨r, hr⟩ ⟨d, hd⟩ : (⟨2, ![N, M]⟩ : Shape).Idx)
          = (Rect.unit (s := ⟨2, ![N, M]⟩) ![o, 0] ![n, M] h).emb (ix2 (n0 := n) (n1 := M) ⟨r - o, hlt⟩ ⟨d, hd⟩) := by
        funext a
        fin_cases a
        · refine Fin.ext (Eq.trans ?_ (ValueKit.rect_emb_unit_val (s := ⟨2, ![N, M]⟩) _ _ h _ 0).symm)
          show r = o + (r - o)
          omega
        · refine Fin.ext (Eq.trans ?_ (ValueKit.rect_emb_unit_val (s := ⟨2, ![N, M]⟩) _ _ h _ 1).symm)
          exact (Nat.zero_add d).symm
      rw [he, Rect.overlay_emb, rd_in P hlt hd]
    · next hi =>
      rw [Rect.overlay_of_not_mem, rd_in Y hr hd]
      intro hm
      exact hi ((Rect.mem_set_unit.mp hm) 0)
  · rw [rd_col _ (Nat.le_of_not_lt hd), rd_col _ (Nat.le_of_not_lt hd), rd_col _ (Nat.le_of_not_lt hd), ite_self]

/-- A padded buffer reads as its input, whose rows past the last read as zero. -/
theorem rd_padded (x : FVec Ideal S10000x128 .f32) {r : ℕ} (d : ℕ) (hr : r < 10240) :
    rd (padded (F := Ideal) x : FVec Ideal S10240x128 .f32) r d = rd x r d := by
  unfold padded
  rw [View.canon_cons, View.canon_cons]
  refine (rd_overlay (N := 10240) (M := 128) (n := 240) (o := 10000) _ (k0_pay2 (F := Ideal)) inb_S10240x128_S240x128_10000_0 d hr).trans ?_
  split
  · next h =>
    rw [rd_row x h.1]
    unfold rd
    split
    · exact Ideal.ofBits_zero_f32
    · rfl
  · next h =>
    refine (rd_overlay (N := 10240) (M := 128) (n := 10000) (o := 0) _ (k0_pay1 (F := Ideal) x) inb_S10240x128_S10000x128_0_0 d hr).trans ?_
    rw [if_pos (by omega), Nat.sub_zero, show k0_pay1 (F := Ideal) x = x from shapeCast_self _ _]

/-! ## The grid point's coordinates -/

theorem lt_N (t : Fin cfg0.N) : t.val < 200 := t.isLt

theorem co0 (t : Fin cfg0.N) : (grid0.coords t 0).val = t.val / 100 := by
  have := lt_N t
  rw [Pipeline.Grid.coords_val t 0 (S := 100) (B := 2) (by decide) (by decide)]; omega
theorem co1 (t : Fin cfg0.N) : (grid0.coords t 1).val = t.val / 50 % 2 :=
  Pipeline.Grid.coords_val t 1 (S := 50) (B := 2) (by decide) (by decide)
theorem co2 (t : Fin cfg0.N) : (grid0.coords t 2).val = t.val / 5 % 10 :=
  Pipeline.Grid.coords_val t 2 (S := 5) (B := 10) (by decide) (by decide)
theorem co3 (t : Fin cfg0.N) : (grid0.coords t 3).val = t.val % 5 := by
  rw [Pipeline.Grid.coords_val t 3 (S := 1) (B := 5) (by decide) (by decide)]; omega

/-! ## The matrix blocks -/

theorem index0 : ∀ t : Fin grid0.N, t.val / 50 % 2 = 0 → win0_0.index t = ![t.val / 5 % 10, t.val % 5] := by decide +kernel
theorem index1 : ∀ t : Fin grid0.N, t.val / 50 % 2 = 1 → win0_1.index t = ![t.val / 5 % 10, t.val % 5] := by decide +kernel

theorem size0 : ∀ t : Fin grid0.N, t.val / 50 % 2 = 0 →
    win0_0.xsize (grid0.coords t) 0 = min 1024 (10000 - 1024 * (t.val / 5 % 10)) ∧ win0_0.xsize (grid0.coords t) 1 = min 2048 (10000 - 2048 * (t.val % 5)) := by
  decide +kernel
theorem size1 : ∀ t : Fin grid0.N, t.val / 50 % 2 = 1 →
    win0_1.xsize (grid0.coords t) 0 = min 1024 (10000 - 1024 * (t.val / 5 % 10)) ∧ win0_1.xsize (grid0.coords t) 1 = min 2048 (10000 - 2048 * (t.val % 5)) := by
  decide +kernel

/-- At row block `i` and column block `k` a buffer holds that block of the matrix, wherever the matrix has entries. -/
def HasBlock (M : FVec Ideal S10000x10000 .f32) (i k : ℕ) (a : FVec Ideal S1024x2048 .f32) : Prop :=
  ∀ r < 1024, ∀ c < 2048, 1024 * i + r < 10000 → 2048 * k + c < 10000 → rd a r c = rd M (1024 * i + r) (2048 * k + c)

theorem has_blk0 (c : Dev nD) (t : Fin cfg0.N) (d) (ht : t.val / 50 % 2 = 0) :
    HasBlock (m ((c.tc : Thread nD τ).loc main_arg2)) (t.val / 5 % 10) (t.val % 5) (blk0 m c t d) := by
  intro r hr q hq h1 h2
  have hs := size0 t ht
  have hm : win0_0.moved (grid0.coords t) (ix2 (n0 := 1024) (n1 := 2048) ⟨r, hr⟩ ⟨q, hq⟩) = true := by
    refine (win0_0.moved_iff _ _).mpr fun a => ?_
    fin_cases a
    · exact lt_of_lt_of_eq (show r < min 1024 (10000 - 1024 * (t.val / 5 % 10)) by omega) hs.1.symm
    · exact lt_of_lt_of_eq (show q < min 2048 (10000 - 2048 * (t.val % 5)) by omega) hs.2.symm
  rw [rd_in _ hr hq]
  unfold blk0 Pipeline.Window.fill
  rw [dif_pos hm]
  refine rd_ix' (m ((c.tc : Thread nD τ).loc main_arg2)) ((win0_0.blk t).view.emb fun a =>
    ⟨((ix2 (n0 := 1024) (n1 := 2048) ⟨r, hr⟩ ⟨q, hq⟩) a).val, (win0_0.moved_iff _ _).mp hm a⟩) ?_ ?_
  · blk_simp [index0 t ht]
    exact congrArg (· + r) (Nat.mul_comm _ _)
  · blk_simp [index0 t ht]
    exact congrArg (· + q) (Nat.mul_comm _ _)

theorem has_blk1 (c : Dev nD) (t : Fin cfg0.N) (d) (ht : t.val / 50 % 2 = 1) :
    HasBlock (m ((c.tc : Thread nD τ).loc main_arg3)) (t.val / 5 % 10) (t.val % 5) (blk1 m c t d) := by
  intro r hr q hq h1 h2
  have hs := size1 t ht
  have hm : win0_1.moved (grid0.coords t) (ix2 (n0 := 1024) (n1 := 2048) ⟨r, hr⟩ ⟨q, hq⟩) = true := by
    refine (win0_1.moved_iff _ _).mpr fun a => ?_
    fin_cases a
    · exact lt_of_lt_of_eq (show r < min 1024 (10000 - 1024 * (t.val / 5 % 10)) by omega) hs.1.symm
    · exact lt_of_lt_of_eq (show q < min 2048 (10000 - 2048 * (t.val % 5)) by omega) hs.2.symm
  rw [rd_in _ hr hq]
  unfold blk1 Pipeline.Window.fill
  rw [dif_pos hm]
  refine rd_ix' (m ((c.tc : Thread nD τ).loc main_arg3)) ((win0_1.blk t).view.emb fun a =>
    ⟨((ix2 (n0 := 1024) (n1 := 2048) ⟨r, hr⟩ ⟨q, hq⟩) a).val, (win0_1.moved_iff _ _).mp hm a⟩) ?_ ?_
  · blk_simp [index1 t ht]
    exact congrArg (· + r) (Nat.mul_comm _ _)
  · blk_simp [index1 t ht]
    exact congrArg (· + q) (Nat.mul_comm _ _)

/-! ## The inputs that one block holds whole -/

theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel

theorem whole2 (c : Dev nD) (t : Fin cfg0.N) : (iblk m c 2 t : Vec Ideal S10000x128 .f32) = m ((c.tc : Thread nD τ).loc main_arg0) :=
  funext fun j => congrArg (m ((c.tc : Thread nD τ).loc main_arg0)) (funext fun a => Fin.ext (by
    fin_cases a
    · show ((win0_2.blk t).view.emb j 0).val = (j 0).val
      blk_simp [index2 t]
    · show ((win0_2.blk t).view.emb j 1).val = (j 1).val
      blk_simp [index2 t]))
theorem whole3 (c : Dev nD) (t : Fin cfg0.N) : (iblk m c 3 t : Vec Ideal S10000x128 .f32) = m ((c.tc : Thread nD τ).loc main_arg1) :=
  funext fun j => congrArg (m ((c.tc : Thread nD τ).loc main_arg1)) (funext fun a => Fin.ext (by
    fin_cases a
    · show ((win0_3.blk t).view.emb j 0).val = (j 0).val
      blk_simp [index3 t]
    · show ((win0_3.blk t).view.emb j 1).val = (j 1).val
      blk_simp [index3 t]))
theorem whole4 (c : Dev nD) (t : Fin cfg0.N) : (iblk m c 4 t : Vec Ideal S3x1 .f32) = m ((c.tc : Thread nD τ).loc main_arg4) :=
  funext fun j => congrArg (m ((c.tc : Thread nD τ).loc main_arg4)) (funext fun a => Fin.ext (by
    fin_cases a
    · show ((win0_4.blk t).view.emb j 0).val = (j 0).val
      blk_simp [index4 t]
    · show ((win0_4.blk t).view.emb j 1).val = (j 1).val
      blk_simp [index4 t]))
theorem whole5 (c : Dev nD) (t : Fin cfg0.N) : (iblk m c 5 t : Vec Ideal S3x1 .f32) = m ((c.tc : Thread nD τ).loc main_arg5) :=
  funext fun j => congrArg (m ((c.tc : Thread nD τ).loc main_arg5)) (funext fun a => Fin.ext (by
    fin_cases a
    · show ((win0_5.blk t).view.emb j 0).val = (j 0).val
      blk_simp [index5 t]
    · show ((win0_5.blk t).view.emb j 1).val = (j 1).val
      blk_simp [index5 t]))

end Cert.KernelIdeal.Hand

end
-- ==== Proof.Sums.lean ====
/-
  The sums the accumulator runs through: how one point extends a partial product of a matrix row and a column, and what
  the last column block makes of it, for either matrix and either hop.
-/
module

public import proofs.«01_k».proof.Proof.Reads

@[expose] public section

set_option maxRecDepth 16384

noncomputable section

namespace Cert.KernelIdeal.Hand

open Idealize.ShloMosaic Idealize.ShloMosaic.ValueIdx Idealize.ShloMosaic.TcCoe Idealize.SL.Sem
open Cert.KernelIdeal Cert.KernelIdeal.Gen
open scoped BigOperators

/-- The hop-1 product of a matrix and an input at row `r` and column `d`. -/
def prodN (A : FVec Ideal S10000x10000 .f32) (x : FVec Ideal S10000x128 .f32) (r d : ℕ) : EReal :=
  ∑ j ∈ Finset.range 10240, rd A r j * rd x j d

/-- The right factor of the second hop: the input times the second weight plus the hop-1 product times the third. -/
def mixN (A : FVec Ideal S10000x10000 .f32) (x : FVec Ideal S10000x128 .f32) (w : FVec Ideal S3x1 .f32) (j d : ℕ) : EReal :=
  w1 (F := Ideal) w * rd x j d + w2 (F := Ideal) w * prodN A x j d

/-- The result: the input times the first weight plus the matrix times the right factor of the second hop. -/
def resN (A : FVec Ideal S10000x10000 .f32) (x : FVec Ideal S10000x128 .f32) (w : FVec Ideal S3x1 .f32) (r d : ℕ) : EReal :=
  w0 (F := Ideal) w * rd x r d + ∑ j ∈ Finset.range 10240, rd A r j * mixN A x w j d

/-- The accumulator holds the partial product over the first `k` column blocks, in the rows of row block `i` that the matrix has. -/
def AccOk (M : FVec Ideal S10000x10000 .f32) (Y : ℕ → ℕ → EReal) (i k : ℕ) (acc : FVec Ideal S1024x128 .f32) : Prop :=
  ∀ r < 1024, 1024 * i + r < 10000 → ∀ d, rd acc r d = ∑ j ∈ Finset.range (2048 * k), rd M (1024 * i + r) j * Y j d

/-- A 2048-row operand holds the rows of `Y` that column block `k` meets. -/
def HasRows (Y : ℕ → ℕ → EReal) (k : ℕ) (z : FVec Ideal S2048x128 .f32) : Prop := ∀ c < 2048, ∀ d, rd z c d = Y (2048 * k + c) d

/-- One block product extends the partial sum by its 2048 terms. -/
theorem dot_step {M : FVec Ideal S10000x10000 .f32} {Y : ℕ → ℕ → EReal} {a : FVec Ideal S1024x2048 .f32} {z : FVec Ideal S2048x128 .f32}
    {i k r : ℕ} (ha : ∀ c < 2048, rd a r c = rd M (1024 * i + r) (2048 * k + c)) (hz : HasRows Y k z) (d : ℕ) :
    ∑ j ∈ Finset.range (2048 * k), rd M (1024 * i + r) j * Y j d + rd (blockDot a z) r d
      = ∑ j ∈ Finset.range (2048 * (k + 1)), rd M (1024 * i + r) j * Y j d := by
  rw [rd_blockDot, Nat.mul_succ, Finset.sum_range_add]
  refine congrArg _ (Finset.sum_congr rfl fun c hc => ?_)
  rw [ha c (Finset.mem_range.mp hc), hz c (Finset.mem_range.mp hc) d]

/-- The accumulator after a point, from the block and the operand that the point multiplies. -/
def accStep (i : grid0.Coords) (acc : FVec Ideal S1024x128 .f32) (a : FVec Ideal S1024x2048 .f32) (z : FVec Ideal S2048x128 .f32) : FVec Ideal S1024x128 .f32 :=
  if (i 3).val = 0 then blockDot a z else if (i 3).val < 4 then addf acc (blockDot a z) else acc

theorem acc1_eq (i : grid0.Coords) (acc : FVec Ideal S1024x128 .f32) (a : FVec Ideal S1024x2048 .f32) (x : FVec Ideal S10240x128 .f32) :
    acc1 (F := Ideal) i acc a x = accStep i acc a (View.ld (Val := Elt Ideal) (e' := .f32) x (rK i)) := by
  unfold acc1 accStep
  rw [pay5_eq, pay6_eq]

theorem acc2_eq (i : grid0.Coords) (acc : FVec Ideal S1024x128 .f32) (a : FVec Ideal S1024x2048 .f32) (w : FVec Ideal S3x1 .f32)
    (x y : FVec Ideal S10240x128 .f32) :
    acc2 (F := Ideal) i acc a w x y
      = accStep i acc a (mixed (w1 (F := Ideal) w) (View.ld (Val := Elt Ideal) (e' := .f32) x (rK i)) (w2 (F := Ideal) w) (View.ld (Val := Elt Ideal) (e' := .f32) y (rK i))) := by
  unfold acc2 accStep
  rw [pay11_eq, pay12_eq]

section

variable {M : FVec Ideal S10000x10000 .f32} {Y : ℕ → ℕ → EReal} {i : grid0.Coords} {acc : FVec Ideal S1024x128 .f32}
  {a : FVec Ideal S1024x2048 .f32} {z : FVec Ideal S2048x128 .f32}

/-- A point before the last column block extends the accumulator's partial product. -/
theorem accStep_ok (ha : HasBlock M (i 2).val (i 3).val a) (hz : HasRows Y (i 3).val z)
    (hacc : (i 3).val ≠ 0 → AccOk M Y (i 2).val (i 3).val acc) (hk : (i 3).val < 4) :
    AccOk M Y (i 2).val ((i 3).val + 1) (accStep i acc a z) := by
  intro r hr hi d
  have hstep := dot_step (M := M) (i := (i 2).val) (k := (i 3).val) (r := r) (fun c hc => ha r hr c hc hi (by omega)) hz d
  unfold accStep
  split
  · next h0 =>
    rw [← hstep, h0, Nat.mul_zero, Finset.range_zero, Finset.sum_empty, zero_add]
  · next h0 =>
    rw [rd_add, hacc h0 r hr hi d, hstep]

/-- The last column block, its columns past the matrix set to zero, completes the sum. -/
theorem total_ok (ha : HasBlock M (i 2).val (i 3).val a) (hz : HasRows Y (i 3).val z)
    (hacc : AccOk M Y (i 2).val (i 3).val acc) (hk : (i 3).val = 4) {r : ℕ} (hr : r < 1024) (hi : 1024 * (i 2).val + r < 10000) (d : ℕ) :
    rd (addf acc (blockDot (maskedA i a) z)) r d = ∑ j ∈ Finset.range 10240, rd M (1024 * (i 2).val + r) j * Y j d := by
  rw [rd_add, hacc r hr hi d, dot_step (M := M) (i := (i 2).val) (k := (i 3).val) (r := r) (fun c hc => ?_) hz d, hk]
  rw [rd_maskedA]
  split
  · next h => exact ha r hr c hc hi h
  · next h => exact (rd_col M (by omega)).symm

end

/-- The rows of a padded input. -/
theorem rows_padded (i : grid0.Coords) (x : FVec Ideal S10000x128 .f32) :
    HasRows (rd x) (i 3).val (View.ld (Val := Elt Ideal) (e' := .f32) (padded (F := Ideal) x) (rK i)) := by
  intro c hc d
  have hk : (i 3).val < 5 := (i 3).isLt
  exact (rd_ld (N := 10240) (M := 128) (n := 2048) (padded (F := Ideal) x) (inbK i) d hc).trans (rd_padded x d (by omega))

/-- The rows of the second hop's right factor, from a padded input and a complete hop-1 product. -/
theorem rows_mixed (i : grid0.Coords) (A : FVec Ideal S10000x10000 .f32) (x : FVec Ideal S10000x128 .f32) (w : FVec Ideal S3x1 .f32)
    (y : FVec Ideal S10240x128 .f32) (hy : ∀ r < 10240, ∀ d, rd y r d = prodN A x r d) :
    HasRows (mixN A x w) (i 3).val (mixed (w1 (F := Ideal) w) (View.ld (Val := Elt Ideal) (e' := .f32) (padded (F := Ideal) x) (rK i))
      (w2 (F := Ideal) w) (View.ld (Val := Elt Ideal) (e' := .f32) y (rK i))) := by
  intro c hc d
  have hk : (i 3).val < 5 := (i 3).isLt
  refine (rd_mixed _ _ _ _ c d).trans ?_
  rw [rows_padded i x c hc d]
  unfold mixN
  rw [← hy _ (by omega) d]
  exact congrArg _ (congrArg _ (rd_ld (N := 10240) (M := 128) (n := 2048) y (inbK i) d hc))

/-- Rows past the matrix's last have a zero product. -/
theorem prodN_row {A : FVec Ideal S10000x10000 .f32} {x : FVec Ideal S10000x128 .f32} {r : ℕ} (hr : 10000 ≤ r) (d : ℕ) : prodN A x r d = 0 :=
  Finset.sum_eq_zero fun j _ => by rw [rd_row A hr, zero_mul]

/-- The first hop keeps the rows already made and at the last column block makes those of its row block. -/
theorem prod1_ok (i : grid0.Coords) (A : FVec Ideal S10000x10000 .f32) (x : FVec Ideal S10000x128 .f32) (acc : FVec Ideal S1024x128 .f32)
    (a : FVec Ideal S1024x2048 .f32) (y : FVec Ideal S10240x128 .f32) (ha : HasBlock A (i 2).val (i 3).val a)
    (hacc : (i 3).val ≠ 0 → AccOk A (rd x) (i 2).val (i 3).val acc)
    (hy : ∀ r < 10240, r < 1024 * (i 2).val → ∀ d, rd y r d = prodN A x r d) {L : ℕ}
    (hL : L = (i 2).val ∨ (i 3).val = 4 ∧ L = (i 2).val + 1) :
    ∀ r < 10240, r < 1024 * L → ∀ d, rd (prod1 (F := Ideal) i acc a (padded (F := Ideal) x) y : FVec Ideal S10240x128 .f32) r d = prodN A x r d := by
  intro r hr hrL d
  unfold prod1
  split
  · next hk =>
    refine (rd_overlay (N := 10240) (M := 128) (n := 1024) y _ (inbI i) d hr).trans ?_
    split
    · next h =>
      rw [pay7_eq, rd_maskedY, show 1024 * (i 2).val + (r - 1024 * (i 2).val) = r by omega]
      split
      · next hlt =>
        refine (total_ok ha (rows_padded i x) (hacc (by omega)) hk (r := r - 1024 * (i 2).val) (by omega) (by omega) d).trans ?_
        rw [show 1024 * (i 2).val + (r - 1024 * (i 2).val) = r by omega]
        rfl
      · next hge => exact (prodN_row (by omega) d).symm
    · next h => exact hy r hr (by omega) d
  · next hk => exact hy r hr (by omega) d

/-- The second hop's last column block stores the result's rows. -/
theorem out2_ok (i : grid0.Coords) (A : FVec Ideal S10000x10000 .f32) (x : FVec Ideal S10000x128 .f32) (w : FVec Ideal S3x1 .f32)
    (o acc : FVec Ideal S1024x128 .f32) (a : FVec Ideal S1024x2048 .f32) (y : FVec Ideal S10240x128 .f32) (ha : HasBlock A (i 2).val (i 3).val a)
    (hacc : (i 3).val ≠ 0 → AccOk A (mixN A x w) (i 2).val (i 3).val acc)
    (hy : ∀ r < 10240, ∀ d, rd y r d = prodN A x r d) (hk : (i 3).val = 4) {r : ℕ} (hr : r < 1024) (hi : 1024 * (i 2).val + r < 10000) (d : ℕ) :
    rd (out2 (F := Ideal) i o acc a w (padded (F := Ideal) x) y : FVec Ideal S1024x128 .f32) r d = resN A x w (1024 * (i 2).val + r) d := by
  unfold out2
  rw [if_pos hk]
  refine (congrArg (fun X : FVec Ideal S1024x128 .f32 => rd X r d) (pay13_eq i acc a _ _ _ _ _ _)).trans ?_
  rw [rd_add, rd_scale, total_ok ha (rows_mixed i A x w y hy) (hacc (by omega)) hk hr hi d]
  unfold resN
  refine congrArg (· + _) (congrArg _ ?_)
  exact (rd_ld (N := 10240) (M := 128) (n := 1024) (padded (F := Ideal) x) (inbI i) d hr).trans (rd_padded x d (by omega))

end Cert.KernelIdeal.Hand

end
-- ==== Proof.Keep.lean ====
/-
  The invariant of the kernel's scratch buffers over the extended reals, that every point keeps it, and the result rows
  that the second hop's last column blocks leave.
-/
module

public import proofs.«01_k».proof.Proof.Sums

@[expose] public section

set_option maxRecDepth 16384

noncomputable section

namespace Cert.KernelIdeal.Hand

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The matrix, the input and the weights that the points of a half of the grid use: those of `A` where `n / 50` is even. -/
def mat (c : Dev nD) (n : ℕ) : FVec Ideal S10000x10000 .f32 :=
  if n / 50 % 2 = 0 then m ((c.tc : Thread nD τ).loc main_arg2) else m ((c.tc : Thread nD τ).loc main_arg3)
def inp (c : Dev nD) (n : ℕ) : FVec Ideal S10000x128 .f32 :=
  if n / 50 % 2 = 0 then m ((c.tc : Thread nD τ).loc main_arg0) else m ((c.tc : Thread nD τ).loc main_arg1)
def wts (c : Dev nD) (n : ℕ) : FVec Ideal S3x1 .f32 :=
  if n / 50 % 2 = 0 then m ((c.tc : Thread nD τ).loc main_arg4) else m ((c.tc : Thread nD τ).loc main_arg5)

/-- The right factor that the points multiply: the input in the first hop, the weighted sum in the second. -/
def fac (c : Dev nD) (n : ℕ) : ℕ → ℕ → EReal :=
  if n / 100 = 0 then rd (inp m c n) else mixN (mat m c n) (inp m c n) (wts m c n)

/-- Before point `n`: the padded inputs are filled, the hop-1 rows of the passed row blocks are made, and inside a row block
    the accumulator holds the partial product. -/
def Inv : Track Ideal := fun c n acc ys yt xs xt =>
  (1 ≤ n → xs = padded (F := Ideal) (m ((c.tc : Thread nD τ).loc main_arg0)) ∧ xt = padded (F := Ideal) (m ((c.tc : Thread nD τ).loc main_arg1)))
  ∧ (∀ r < 10240, r < 1024 * (n / 5) → ∀ d, rd (n := 10240) (m := 128) ys r d
      = prodN (m ((c.tc : Thread nD τ).loc main_arg2)) (m ((c.tc : Thread nD τ).loc main_arg0)) r d)
  ∧ (∀ r < 10240, r + 10240 < 1024 * (n / 5) → ∀ d, rd (n := 10240) (m := 128) yt r d
      = prodN (m ((c.tc : Thread nD τ).loc main_arg3)) (m ((c.tc : Thread nD τ).loc main_arg1)) r d)
  ∧ (n % 5 ≠ 0 → AccOk (mat m c n) (fac m c n) (n / 5 % 10) (n % 5) acc)

/-- The output block after the last column block of the second hop holds the result's rows, as far as the result has rows. -/
def Out : Leave Ideal := fun c t X =>
  t.val / 100 = 1 → t.val % 5 = 4 → ∀ r < 1024, 1024 * (t.val / 5 % 10) + r < 10000 → ∀ d,
    rd (n := 1024) (m := 128) X r d = resN (mat m c t.val) (inp m c t.val) (wts m c t.val) (1024 * (t.val / 5 % 10) + r) d

/-- Nothing is asked before the first point. -/
theorem inv_start (c : Dev nD) (acc ys yt xs xt) : Inv m c 0 acc ys yt xs xt :=
  ⟨fun h => absurd h (by decide), fun r _ h => absurd h (by omega), fun r _ h => absurd h (by omega), fun h => absurd rfl h⟩

/-- Two neighbouring points of one row block use the same matrix and right factor. -/
theorem same_block {n : ℕ} (h : (n + 1) % 5 ≠ 0) (c : Dev nD) :
    mat m c (n + 1) = mat m c n ∧ fac m c (n + 1) = fac m c n ∧ (n + 1) / 5 % 10 = n / 5 % 10 ∧ (n + 1) % 5 = n % 5 + 1 := by
  have h50 : (n + 1) / 50 = n / 50 := by omega
  have h100 : (n + 1) / 100 = n / 100 := by omega
  have hm : mat m c (n + 1) = mat m c n := by unfold mat; rw [h50]
  have hi : inp m c (n + 1) = inp m c n := by unfold inp; rw [h50]
  have hw : wts m c (n + 1) = wts m c n := by unfold wts; rw [h50]
  exact ⟨hm, by unfold fac; rw [h100, hm, hi, hw], by omega, by omega⟩

/-- The accumulator's part of the invariant after a point that stepped it. -/
theorem acc_part (c : Dev nD) (t : Fin cfg0.N) (acc : FVec Ideal S1024x128 .f32) (a : FVec Ideal S1024x2048 .f32) (z : FVec Ideal S2048x128 .f32)
    (hacc : t.val % 5 ≠ 0 → AccOk (mat m c t.val) (fac m c t.val) (t.val / 5 % 10) (t.val % 5) acc)
    (ha : HasBlock (mat m c t.val) (t.val / 5 % 10) (t.val % 5) a) (hz : HasRows (fac m c t.val) (t.val % 5) z) :
    (t.val + 1) % 5 ≠ 0 → AccOk (mat m c (t.val + 1)) (fac m c (t.val + 1)) ((t.val + 1) / 5 % 10) ((t.val + 1) % 5) (accStep (grid0.coords t) acc a z) := by
  intro hn
  obtain ⟨h1, h2, h3, h4⟩ := same_block m hn c
  rw [h1, h2, h3, h4, ← co2, ← co3]
  rw [← co2, ← co3] at hacc ha
  rw [← co3] at hz
  exact accStep_ok ha hz hacc (by rw [co3]; omega)

/-- Every point keeps the invariant and leaves its result rows. -/
theorem keeps : Keeps m (Inv m) (Out m) := by
  intro c t d0 d1 o acc ys yt xs xt ⟨hx, hys, hyt, hacc⟩
  have hN := lt_N t
  have e0 := co0 t
  have e1 := co1 t
  have e2 := co2 t
  have e3 := co3 t
  have hL : (t.val + 1) / 5 = t.val / 5 ∨ (grid0.coords t 3).val = 4 ∧ (t.val + 1) / 5 = t.val / 5 + 1 := by omega
  by_cases hp : t.val / 100 = 0
  · by_cases hm : t.val / 50 % 2 = 0
    · -- the first hop with `A`
      have hmat : mat m c t.val = m ((c.tc : Thread nD τ).loc main_arg2) := if_pos hm
      have hfac : fac m c t.val = rd (n := 10000) (m := 128) (m ((c.tc : Thread nD τ).loc main_arg0)) := by
        unfold fac inp; rw [if_pos hp, if_pos hm]
      have hpad : (fillPads (grid0.coords t) (entry m c t d0 d1 o acc ys yt xs xt)).xs = padded (F := Ideal) (m ((c.tc : Thread nD τ).loc main_arg0))
          ∧ (fillPads (grid0.coords t) (entry m c t d0 d1 o acc ys yt xs xt)).xt = padded (F := Ideal) (m ((c.tc : Thread nD τ).loc main_arg1)) := by
        unfold fillPads
        split
        · exact ⟨congrArg (padded (F := Ideal)) (whole2 m c t), congrArg (padded (F := Ideal)) (whole3 m c t)⟩
        · exact hx (by omega)
      have hrest : (fillPads (grid0.coords t) (entry m c t d0 d1 o acc ys yt xs xt)).acc = acc
          ∧ (fillPads (grid0.coords t) (entry m c t d0 d1 o acc ys yt xs xt)).a0 = blk0 m c t d0
          ∧ (fillPads (grid0.coords t) (entry m c t d0 d1 o acc ys yt xs xt)).ys = ys
          ∧ (fillPads (grid0.coords t) (entry m c t d0 d1 o acc ys yt xs xt)).yt = yt := by
        unfold fillPads
        split <;> exact ⟨rfl, rfl, rfl, rfl⟩
      unfold next
      rw [if_pos (by omega), if_pos (by omega)]
      have ha := has_blk0 m c t d0 hm
      rw [hmat, hfac] at hacc
      refine ⟨⟨fun _ => hpad, ?_, fun r hr h => absurd h (by omega), ?_⟩, fun h => absurd h (by omega)⟩
      · unfold hop1s
        dsimp only
        rw [hrest.1, hrest.2.1, hrest.2.2.1, hpad.1]
        rw [← e2, ← e3] at ha hacc
        exact prod1_ok (grid0.coords t) _ _ acc _ ys ha hacc (fun r hr h => hys r hr (by omega)) (by omega)
      · unfold hop1s
        dsimp only
        rw [hrest.1, hrest.2.1, hpad.1, acc1_eq]
        refine acc_part m c t acc _ _ (by rw [hmat, hfac]; exact hacc) (by rw [hmat]; exact ha) ?_
        rw [hfac, ← e3]
        exact rows_padded _ _
    · -- the first hop with `At`
      have hm1 : t.val / 50 % 2 = 1 := by omega
      have hmat : mat m c t.val = m ((c.tc : Thread nD τ).loc main_arg3) := if_neg hm
      have hfac : fac m c t.val = rd (n := 10000) (m := 128) (m ((c.tc : Thread nD τ).loc main_arg1)) := by
        unfold fac inp; rw [if_pos hp, if_neg hm]
      obtain ⟨rfl, rfl⟩ := hx (by omega)
      unfold next
      rw [if_pos (by omega), if_neg (by omega)]
      have ha := has_blk1 m c t d1 hm1
      rw [hmat, hfac] at hacc
      refine ⟨⟨fun _ => ⟨rfl, rfl⟩, fun r hr _ => hys r hr (by omega), ?_, ?_⟩, fun h => absurd h (by omega)⟩
      · have ha' := ha
        have hacc' := hacc
        rw [← e2, ← e3] at ha' hacc'
        intro r hr h
        exact prod1_ok (grid0.coords t) _ _ acc _ yt ha' hacc' (fun r hr h => hyt r hr (by omega)) (L := (t.val + 1) / 5 - 10)
          (by omega) r hr (by omega)
      · unfold hop1t entry
        dsimp only
        rw [acc1_eq]
        refine acc_part m c t acc _ _ (by rw [hmat, hfac]; exact hacc) (by rw [hmat]; exact ha) ?_
        rw [hfac, ← e3]
        exact rows_padded _ _
  · obtain ⟨rfl, rfl⟩ := hx (by omega)
    by_cases hm : t.val / 50 % 2 = 0
    · -- the second hop with `A`
      have hmat : mat m c t.val = m ((c.tc : Thread nD τ).loc main_arg2) := if_pos hm
      have hinp : inp m c t.val = m ((c.tc : Thread nD τ).loc main_arg0) := if_pos hm
      have hwts : wts m c t.val = m ((c.tc : Thread nD τ).loc main_arg4) := if_pos hm
      have hfac : fac m c t.val = mixN (m ((c.tc : Thread nD τ).loc main_arg2)) (m ((c.tc : Thread nD τ).loc main_arg0)) (m ((c.tc : Thread nD τ).loc main_arg4)) := by
        unfold fac; rw [if_neg hp, hmat, hinp, hwts]
      unfold next
      rw [if_neg (by omega), if_pos (by omega)]
      have ha := has_blk0 m c t d0 hm
      rw [hmat, hfac] at hacc
      have hy : ∀ r < 10240, ∀ d, rd (n := 10240) (m := 128) ys r d = _ := fun r hr => hys r hr (by omega)
      refine ⟨⟨fun _ => ⟨rfl, rfl⟩, fun r hr _ => hy r hr, fun r hr h => hyt r hr (by omega), ?_⟩, fun _ hk r hr hi d => ?_⟩
      · unfold hop2s entry
        dsimp only
        rw [acc2_eq, whole4]
        refine acc_part m c t acc _ _ (by rw [hmat, hfac]; exact hacc) (by rw [hmat]; exact ha) ?_
        rw [hfac, ← e3]
        exact rows_mixed _ _ _ _ _ hy
      · unfold hop2s entry
        dsimp only
        rw [whole4, hmat, hinp, hwts]
        rw [← e2, ← e3] at ha hacc
        rw [← e2] at hi ⊢
        exact out2_ok (grid0.coords t) _ _ _ _ acc _ ys ha hacc hy (by omega) hr hi d
    · -- the second hop with `At`
      have hmat : mat m c t.val = m ((c.tc : Thread nD τ).loc main_arg3) := if_neg hm
      have hinp : inp m c t.val = m ((c.tc : Thread nD τ).loc main_arg1) := if_neg hm
      have hwts : wts m c t.val = m ((c.tc : Thread nD τ).loc main_arg5) := if_neg hm
      have hfac : fac m c t.val = mixN (m ((c.tc : Thread nD τ).loc main_arg3)) (m ((c.tc : Thread nD τ).loc main_arg1)) (m ((c.tc : Thread nD τ).loc main_arg5)) := by
        unfold fac; rw [if_neg hp, hmat, hinp, hwts]
      unfold next
      rw [if_neg (by omega), if_neg (by omega)]
      have ha := has_blk1 m c t d1 (by omega)
      rw [hmat, hfac] at hacc
      have hy : ∀ r < 10240, ∀ d, rd (n := 10240) (m := 128) yt r d = _ := fun r hr => hyt r hr (by omega)
      refine ⟨⟨fun _ => ⟨rfl, rfl⟩, fun r hr _ => hys r hr (by omega), fun r hr _ => hy r hr, ?_⟩, fun _ hk r hr hi d => ?_⟩
      · unfold hop2t entry
        dsimp only
        rw [acc2_eq, whole5]
        refine acc_part m c t acc _ _ (by rw [hmat, hfac]; exact hacc) (by rw [hmat]; exact ha) ?_
        rw [hfac, ← e3]
        exact rows_mixed _ _ _ _ _ hy
      · unfold hop2t entry
        dsimp only
        rw [whole5, hmat, hinp, hwts]
        rw [← e2, ← e3] at ha hacc
        rw [← e2] at hi ⊢
        exact out2_ok (grid0.coords t) _ _ _ _ acc _ yt ha hacc hy (by omega) hr hi d

end Cert.KernelIdeal.Hand

end
-- ==== Proof.Output.lean ====
/-
  The result array after the run over the extended reals: the two halves' results side by side, at every row.
-/
module

public import proofs.«01_k».proof.Proof.Keep

@[expose] public section

set_option maxRecDepth 16384

noncomputable section

namespace Cert.KernelIdeal.Hand

open Idealize.ShloMosaic Idealize.ShloMosaic.ValueIdx Idealize.ShloMosaic.TcCoe Idealize.SL.Sem
open Idealize.SL.RA
open Cert.KernelIdeal Cert.KernelIdeal.Gen
open Idealize.ShloMosaic.Pipeline

/-- If every block written back from point `n₀` on has a property, so does every element under a block written back at one of those
    points, whatever the earlier points wrote: the last write to an element is one of the later ones. -/
theorem late_writes {cfg : Cfg sig Λ₀} {c : Dev nD} (dat : Dat τ (Elt Ideal) Unit ℕ (UR sig nD τ) ℕ cfg c) (w : Fin cfg.W) (n₀ : ℕ)
    (P : ((cfg.win w).arr.view.loc (c.tc : Thread nD τ)).2.ty.Idx → Elt Ideal ((cfg.win w).arr.view.loc (c.tc : Thread nD τ)).2.ty.elt → Prop)
    (hP : ∀ t : Fin cfg.N, n₀ ≤ t.val → (cfg.win w).flush t = true → ∀ y : ((cfg.win w).xblock (cfg.grid.coords t)).Idx,
      P (((cfg.win w).blk t).view.emb y) (_root_.cast (congrArg (Elt Ideal) ((cfg.win w).blk t).view.elt_eq.symm) (dat.flushed w t y)))
    (t : Fin cfg.N) (i : ((cfg.win w).arr.view.loc (c.tc : Thread nD τ)).2.ty.Idx) (ht : n₀ ≤ t.val) (hf : (cfg.win w).flush t = true)
    (hi : i ∈ ((cfg.win w).blk t).view.set) : ∀ n, t.val < n → P i (dat.arrAt w n i) := by
  intro n
  induction n with
  | zero => exact fun h => absurd h (Nat.not_lt_zero _)
  | succ n ih =>
    intro hn
    rw [dat.arrAt_succ_apply]
    have older : t.val ≠ n → P i (dat.arrAt w n i) := fun e => ih (by omega)
    have this : ∀ h : n < cfg.N, t.val = n → t = ⟨n, h⟩ := fun h e => Fin.ext e
    split
    · next h =>
      split
      · next hfn =>
        by_cases hin : i ∈ ((cfg.win w).blk ⟨n, h⟩).view.set
        · obtain ⟨y, -, rfl⟩ := Finset.mem_map.mp hin
          rw [View.write_emb_of_mem _ _ (Finset.mem_univ y)]
          exact hP _ (by show n₀ ≤ n; omega) hfn y
        · rw [View.write_of_not_mem _ _ _ (by rwa [View.setOn_univ])]
          exact older fun e => hin (this h e ▸ hi)
      · next hfn => exact older fun e => hfn (this h e ▸ hf)
    · next h => exact older fun e => h (e ▸ t.isLt)

variable (m : (ℓ : Loc nD τ sig) → Buf (Elt Ideal) ℓ)

theorem index6 : ∀ t : Fin grid0.N, 100 ≤ t.val → win0_6.index t = ![t.val / 5 % 10, t.val / 50 % 2] := by decide +kernel
theorem size6 : ∀ t : Fin grid0.N, 100 ≤ t.val →
    win0_6.xsize (grid0.coords t) 0 = min 1024 (10000 - 1024 * (t.val / 5 % 10)) ∧ win0_6.xsize (grid0.coords t) 1 = 128 := by decide +kernel
/-- From point 100 on the output is written back after each row block's last column block. -/
theorem flush6 : ∀ t : Fin grid0.N, 100 ≤ t.val → (win0_6.flush t = true ↔ t.val % 5 = 4) := by decide +kernel

/-- The result at row `r` and column `q` of the two halves' results side by side. -/
def result (c : Dev nD) (r q : ℕ) : EReal :=
  if q < 128 then resN (m ((c.tc : Thread nD τ).loc main_arg2)) (m ((c.tc : Thread nD τ).loc main_arg0)) (m ((c.tc : Thread nD τ).loc main_arg4)) r q
  else resN (m ((c.tc : Thread nD τ).loc main_arg3)) (m ((c.tc : Thread nD τ).loc main_arg1)) (m ((c.tc : Thread nD τ).loc main_arg5)) r (q - 128)

/-- What a point of the second hop leaves is its block of the result. -/
theorem half (c : Dev nD) (n r d : ℕ) (hd : d < 128) :
    resN (mat m c n) (inp m c n) (wts m c n) r d = result m c r (128 * (n / 50 % 2) + d) := by
  unfold result mat inp wts
  by_cases h : n / 50 % 2 = 0
  · rw [if_pos h, if_pos h, if_pos h, if_pos (by omega), h, Nat.mul_zero, Nat.zero_add]
  · rw [if_neg h, if_neg h, if_neg h, if_neg (by omega), show 128 * (n / 50 % 2) + d - 128 = d by omega]

/-- After the run every element of the result array is the result there. -/
theorem result_of_post {r : PUnit × MemSt nD τ sig (Elt Ideal)}
    (h : RDat.FramePost cfg0 (fun c => (dats m (Inv m) 0 c).toRRel fgt (Rw (Out m) c)) (V m) r) (c : Dev nD) (j : S10000x256.Idx) :
    r.2.mem ((c.tc : Thread nD τ).loc main_v0) j = result m c (j 0).val (j 1).val := by
  obtain ⟨after, hL, hA⟩ := h.exists_exact c
  have hj0 : (j 0).val < 10000 := (j 0).isLt
  have hj1 : (j 1).val < 256 := (j 1).isLt
  refine (congrFun (hA 6) j).trans ?_
  obtain ⟨u, hu⟩ : ∃ u : Fin cfg0.N, u.val = 100 + 50 * ((j 1).val / 128) + 5 * ((j 0).val / 1024) + 4 :=
    ⟨⟨100 + 50 * ((j 1).val / 128) + 5 * ((j 0).val / 1024) + 4, by show _ < 200; omega⟩, rfl⟩
  refine late_writes (cfg := cfg0) (c := c) (((dats m (Inv m) 0 c).toRRel fgt (Rw (Out m) c)).withAfter after) 6 100
    (fun i v => v = result m c ((show S10000x256.Idx from i) 0).val ((show S10000x256.Idx from i) 1).val) (fun t ht hf y => ?_)
    u j (by omega) ?_ ?_ _ u.isLt
  · have hl : Out m c t (after 6 t) := Pipeline.Dat.toRRel_leaves (w := 6) _ rfl (hL 6 t hf)
    have hs := size6 t ht
    have hy0 : (y 0).val < min 1024 (10000 - 1024 * (t.val / 5 % 10)) := lt_of_lt_of_eq (y 0).isLt hs.1
    have hy1 : (y 1).val < 128 := lt_of_lt_of_eq (y 1).isLt hs.2
    have hN := lt_N t
    have he := hl (by omega) ((flush6 t ht).mp hf) (y 0).val (by omega) (by omega) (y 1).val
    rw [half m c _ _ _ hy1] at he
    have e0 : ((win0_6.blk t).view.emb y 0).val = 1024 * (t.val / 5 % 10) + (y 0).val := by
      blk_simp [index6 t ht]
      exact congrArg (· + _) (Nat.mul_comm _ _)
    have e1 : ((win0_6.blk t).view.emb y 1).val = 128 * (t.val / 50 % 2) + (y 1).val := by
      blk_simp [index6 t ht]
      exact congrArg (· + _) (Nat.mul_comm _ _)
    refine Eq.trans ?_ (he.trans (congr (congrArg (result m c) e0.symm) e1.symm))
    exact rd_ix' (n := 1024) (k := 128) (after 6 t) (win0_6.xinj (grid0.coords t) y) rfl rfl
  · exact (flush6 u (by omega)).mpr (by omega)
  · have hs := size6 u (by omega)
    refine (win0_6.emb_mem_blk_iff u j).mpr fun a => ?_
    rw [index6 u (by omega)]
    fin_cases a
    · show u.val / 5 % 10 * 1024 ≤ (j 0).val ∧ (j 0).val < u.val / 5 % 10 * 1024 + win0_6.xsize (grid0.coords u) 0
      rw [hs.1]
      omega
    · show u.val / 50 % 2 * 128 ≤ (j 1).val ∧ (j 1).val < u.val / 50 % 2 * 128 + win0_6.xsize (grid0.coords u) 1
      rw [hs.2]
      omega

end Cert.KernelIdeal.Hand

end
-- ==== Proof.Finite.lean ====
/-
  The algebra: where the matrix, the input and the last two weights are finite, distributing the weights over the second
  product changes nothing. And what the precondition says: those numbers are finite.
-/
module

public import proofs.«01_k».proof.Defs
public import proofs.«01_k».proof.Proof.Output
public import proofs.«01_k».proof.Proof.Gen.Pre_finite

@[expose] public section

set_option maxRecDepth 16384

noncomputable section

namespace Cert.KernelIdeal.Hand

open Idealize.ShloMosaic Idealize.ShloMosaic.ValueIdx Idealize.ShloMosaic.TcCoe Idealize.SL.Sem
open Cert.KernelIdeal Cert.KernelIdeal.Gen
open scoped BigOperators

/-- The three scalars of a weight column are its entries. -/
theorem w0_eq (w : FVec Ideal S3x1 .f32) : w0 (F := Ideal) w = rd w 0 0 := rd_ix' w _ rfl rfl
theorem w1_eq (w : FVec Ideal S3x1 .f32) : w1 (F := Ideal) w = rd w 1 0 := rd_ix' w _ rfl rfl
theorem w2_eq (w : FVec Ideal S3x1 .f32) : w2 (F := Ideal) w = rd w 2 0 := rd_ix' w _ rfl rfl

/-- The result as the reference arranges it: each hop's product weighted by itself. -/
def refN (A : FVec Ideal S10000x10000 .f32) (x : FVec Ideal S10000x128 .f32) (w : FVec Ideal S3x1 .f32) (r d : ℕ) : EReal :=
  (rd w 0 0 * rd x r d + rd w 1 0 * prodN A x r d) + rd w 2 0 * ∑ j ∈ Finset.range 10240, rd A r j * prodN A x j d

/-- Every entry of an array is a finite number. -/
def Fin2 {n k : ℕ} (X : FVec Ideal ⟨2, ![n, k]⟩ .f32) : Prop := ∀ r c, ∃ v : ℝ, rd X r c = (v : EReal)

theorem sum_real {ι : Type} (s : Finset ι) (f : ι → EReal) (g : ι → ℝ) (h : ∀ i ∈ s, f i = (g i : EReal)) :
    ∑ i ∈ s, f i = ((∑ i ∈ s, g i : ℝ) : EReal) := by
  classical
  induction s using Finset.induction_on with
  | empty => rfl
  | insert a s ha ih =>
    rw [Finset.sum_insert ha, Finset.sum_insert ha, EReal.coe_add, h a (Finset.mem_insert_self a s),
      ih fun i hi => h i (Finset.mem_insert_of_mem hi)]

/-- Where the numbers are finite the two arrangements agree; the first weight may be anything. -/
theorem resN_eq_refN {A : FVec Ideal S10000x10000 .f32} {x : FVec Ideal S10000x128 .f32} {w : FVec Ideal S3x1 .f32}
    (hA : Fin2 A) (hx : Fin2 x) (h1 : ∃ v : ℝ, rd w 1 0 = (v : EReal)) (h2 : ∃ v : ℝ, rd w 2 0 = (v : EReal)) (r d : ℕ) :
    resN A x w r d = refN A x w r d := by
  obtain ⟨u, hu⟩ := h1
  obtain ⟨v, hv⟩ := h2
  choose a ha using hA
  choose b hb using hx
  have hp : ∀ i, prodN A x i d = ((∑ j ∈ Finset.range 10240, a i j * b j d : ℝ) : EReal) := fun i =>
    sum_real _ _ _ fun j _ => by rw [ha, hb, EReal.coe_mul]
  have hq : ∑ j ∈ Finset.range 10240, rd A r j * prodN A x j d
      = ((∑ j ∈ Finset.range 10240, a r j * ∑ k ∈ Finset.range 10240, a j k * b k d : ℝ) : EReal) :=
    sum_real _ _ _ fun j _ => by rw [ha, hp, EReal.coe_mul]
  have hm : ∑ j ∈ Finset.range 10240, rd A r j * mixN A x w j d
      = ((∑ j ∈ Finset.range 10240, a r j * (u * b j d + v * ∑ k ∈ Finset.range 10240, a j k * b k d) : ℝ) : EReal) :=
    sum_real _ _ _ fun j _ => by
      unfold mixN
      rw [w1_eq, w2_eq, hu, hv, ha, hb, hp, EReal.coe_mul, EReal.coe_add, EReal.coe_mul, EReal.coe_mul]
  unfold resN refN
  rw [w0_eq, hm, hq, hp, hu, hv, add_assoc, ← EReal.coe_mul, ← EReal.coe_mul, ← EReal.coe_add]
  refine congrArg (fun z : ℝ => rd w 0 0 * rd x r d + (z : EReal)) ?_
  rw [Finset.mul_sum, Finset.mul_sum, ← Finset.sum_add_distrib]
  exact Finset.sum_congr rfl fun j _ => by ring

/-- A number whose absolute value is below infinity is real. -/
theorem real_of_below {v : EReal} (h : Ideal.cmp .olt (max v (-v)) (Ideal.ofBits .f32 0x7F800000#32) = 1#1) : ∃ z : ℝ, v = (z : EReal) := by
  have ht : Ideal.ofBits .f32 0x7F800000#32 = ⊤ := by simp [Ideal.ofBits, Ideal.ieee]
  rw [ht] at h
  have hlt : max v (-v) < ⊤ := by
    by_contra hn
    unfold Ideal.cmp at h
    simp [hn] at h
  rw [max_lt_iff] at hlt
  refine ⟨v.toReal, (EReal.coe_toReal hlt.1.ne fun hb => ?_).symm⟩
  rw [hb] at hlt
  exact absurd hlt.2 (by simp)

theorem fin2_of {n k : ℕ} {X : FVec Ideal ⟨2, ![n, k]⟩ .f32}
    (h : ∀ j, Ideal.cmp .olt (max (X j) (-(X j))) (Ideal.ofBits .f32 0x7F800000#32) = 1#1) : Fin2 X := by
  intro r c
  by_cases hb : r < n ∧ c < k
  · rw [rd_in X hb.1 hb.2]; exact real_of_below (h _)
  · exact ⟨0, dif_neg hb⟩

/-- The last two weights of a column, taken as the slice of its last two rows, are real if the slice's entries are. -/
theorem weights_of {w : FVec Ideal S3x1 .f32} (hs : S3x1.Slices ![1, 0] Cert.Pre_finite.S2x1)
    (h : ∀ j, Ideal.cmp .olt (max (extractStridedSlice Cert.Pre_finite.S2x1 ![1, 0] w hs j) (-(extractStridedSlice Cert.Pre_finite.S2x1 ![1, 0] w hs j)))
      (Ideal.ofBits .f32 0x7F800000#32) = 1#1) :
    (∃ v : ℝ, rd w 1 0 = (v : EReal)) ∧ ∃ v : ℝ, rd w 2 0 = (v : EReal) := by
  have e : ∀ i : Fin 2, ∃ v : ℝ, rd w (1 + i.val) 0 = (v : EReal) := fun i => by
    have hi := real_of_below (h (ix2 i 0))
    rw [extractStridedSlice_apply ![1, 0] w hs (ix2 i 0) (ix2 (n0 := 3) (n1 := 1) ⟨1 + i.val, by omega⟩ 0) (fun a => by fin_cases a <;> rfl)] at hi
    rwa [rd_in w (by omega) (by omega)]
  exact ⟨e 0, e 1⟩

/-- The precondition: both inputs, both matrices and the last two weights of each column are finite. -/
theorem pre_finite {m : (ℓ : Loc nD τ sig) → Buf (Elt Ideal) ℓ}
    (h : @Cert.Pre_KernelIdeal_finite Cert.Pre_finite.Gen.facts m) (c : Dev nD) :
    (Fin2 (n := 10000) (k := 128) (m ((c.tc : Thread nD τ).loc main_arg0)) ∧ Fin2 (n := 10000) (k := 128) (m ((c.tc : Thread nD τ).loc main_arg1)))
    ∧ (Fin2 (n := 10000) (k := 10000) (m ((c.tc : Thread nD τ).loc main_arg2)) ∧ Fin2 (n := 10000) (k := 10000) (m ((c.tc : Thread nD τ).loc main_arg3)))
    ∧ ((∃ v : ℝ, rd (n := 3) (m := 1) (m ((c.tc : Thread nD τ).loc main_arg4)) 1 0 = (v : EReal))
      ∧ ∃ v : ℝ, rd (n := 3) (m := 1) (m ((c.tc : Thread nD τ).loc main_arg4)) 2 0 = (v : EReal))
    ∧ ((∃ v : ℝ, rd (n := 3) (m := 1) (m ((c.tc : Thread nD τ).loc main_arg5)) 1 0 = (v : EReal))
      ∧ ∃ v : ℝ, rd (n := 3) (m := 1) (m ((c.tc : Thread nD τ).loc main_arg5)) 2 0 = (v : EReal)) := by
  obtain ⟨h0, h1, h2, h3, h4, h5⟩ := h c
  exact ⟨⟨fin2_of fun j => congrFun h0 j, fin2_of fun j => congrFun h1 j⟩, ⟨fin2_of fun j => congrFun h2 j, fin2_of fun j => congrFun h3 j⟩,
    weights_of Cert.Pre_finite.Gen.facts.slices_S3x1_S2x1_1_0 fun j => congrFun h4 j,
    weights_of Cert.Pre_finite.Gen.facts.slices_S3x1_S2x1_1_0 fun j => congrFun h5 j⟩

end Cert.KernelIdeal.Hand

end
-- ==== Proof.RefValue.lean ====
/-
  What the reference computes, at a row and a column: each half's input and two hop products, weighted and added.
-/
module

public import proofs.«01_k».proof.Proof.Finite
public import proofs.«01_k».proof.Proof.Gen.ReferenceIdeal.Read

@[expose] public section

set_option maxRecDepth 16384

noncomputable section

namespace Cert.KernelIdeal.Hand

open Idealize.ShloMosaic Idealize.ShloMosaic.ValueIdx
open Cert.ReferenceIdeal.Read
open Cert.KernelIdeal (S10000x128 S10000x10000 S3x1 S10000x256)
open scoped BigOperators

/-- A sum over the matrix's columns is the sum over the padded ones, whose extra terms are zero. -/
theorem sum_cols (A : FVec Ideal S10000x10000 .f32) (Y : ℕ → EReal) (r : ℕ) :
    ∑ j ∈ Finset.range 10240, rd A r j * Y j = ∑ k : Fin 10000, rd A r k.val * Y k.val := by
  rw [show 10240 = 10000 + 240 from rfl, Finset.sum_range_add, Finset.sum_range,
    Finset.sum_eq_zero (s := Finset.range 240) fun j _ => by rw [rd_col A (Nat.le_add_right _ _), zero_mul], add_zero]

/-- The first product. -/
theorem ref_prod (x : FVec Ideal S10000x128 .f32) (A : FVec Ideal S10000x10000 .f32) (i : S10000x128.Idx) :
    val_main_v10 (F := Ideal) x A i = prodN A x (i 0).val (i 1).val := by
  rw [val_main_v10_apply]
  unfold prodN
  rw [sum_cols A (fun j => rd x j (i 1).val)]
  exact Finset.sum_congr rfl fun k _ => congr (congrArg _ (rd_ix' A _ rfl rfl)) (rd_ix' x _ rfl rfl)

/-- One half of the reference's result. -/
theorem ref_half (x : FVec Ideal S10000x128 .f32) (A : FVec Ideal S10000x10000 .f32) (w : FVec Ideal S3x1 .f32) (i : S10000x128.Idx) :
    val_main_v31 (F := Ideal) x A w i = refN A x w (i 0).val (i 1).val := by
  have e0 : val_main_v3 (F := Ideal) w i = rd w 0 0 := by
    rw [val_main_v3_apply, val_main_v2_apply, val_main_v1_apply, val_main_v0_apply]; exact rd_ix' w _ rfl rfl
  have e1 : val_main_v15 (F := Ideal) w i = rd w 1 0 := by
    rw [val_main_v15_apply, val_main_v14_apply, val_main_v13_apply, val_main_v12_apply]; exact rd_ix' w _ rfl rfl
  have e2 : val_main_v29 (F := Ideal) w i = rd w 2 0 := by
    rw [val_main_v29_apply, val_main_v28_apply, val_main_v27_apply, val_main_v26_apply]; exact rd_ix' w _ rfl rfl
  have ep : val_main_v24 (F := Ideal) x A i = ∑ j ∈ Finset.range 10240, rd A (i 0).val j * prodN A x j (i 1).val := by
    rw [val_main_v24_apply, sum_cols A (fun j => prodN A x j (i 1).val)]
    exact Finset.sum_congr rfl fun k _ => congr (congrArg _ (rd_ix' A _ rfl rfl)) (ref_prod x A _)
  rw [val_main_v31_apply, val_main_v17_apply, val_main_v4_apply, val_main_v16_apply, val_main_v30_apply, e0, e1, e2, ep, ref_prod,
    rd_ix' x i rfl rfl]
  rfl

/-- The other half is the same function of the other arguments. -/
theorem halves (x : FVec Ideal S10000x128 .f32) (A : FVec Ideal S10000x10000 .f32) (w : FVec Ideal S3x1 .f32) :
    val_main_v37 (F := Ideal) x A w = val_main_v31 (F := Ideal) x A w := rfl

/-- The reference's result: the halves side by side. -/
theorem ref_result (x₀ x₁ : FVec Ideal S10000x128 .f32) (A₀ A₁ : FVec Ideal S10000x10000 .f32) (v₀ v₁ : FVec Ideal S3x1 .f32) (j : S10000x256.Idx) :
    val_main_v38 (F := Ideal) x₀ x₁ A₀ A₁ v₀ v₁ j
      = if (j 1).val < 128 then refN A₀ x₀ v₀ (j 0).val (j 1).val else refN A₁ x₁ v₁ (j 0).val ((j 1).val - 128) := by
  have hj0 : (j 0).val < 10000 := (j 0).isLt
  have hj1 : (j 1).val < 256 := (j 1).isLt
  unfold val_main_v38
  split
  · next h =>
    refine (concatenate_pair_apply_left (s₁ := S10000x128) (s₂ := S10000x128) 1 _ _ _ j rfl (ix2 (n0 := 10000) (n1 := 128) ⟨(j 0).val, hj0⟩ ⟨(j 1).val, h⟩) fun b => ?_).trans
      (ref_half x₀ A₀ v₀ _)
    fin_cases b <;> rfl
  · next h =>
    refine (concatenate_pair_apply_right (s₁ := S10000x128) (s₂ := S10000x128) 1 _ _ _ j rfl rfl (ix2 (n0 := 10000) (n1 := 128) ⟨(j 0).val, hj0⟩ ⟨(j 1).val - 128, by omega⟩)
      (fun b hb => ?_) ?_).trans ?_
    · fin_cases b
      · rfl
      · exact absurd rfl hb
    · show (j 1).val - 128 + 128 = (j 1).val
      omega
    · rw [halves]; exact ref_half x₁ A₁ v₁ _

end Cert.KernelIdeal.Hand

end
-- ==== Proof.Algebraic.lean ====
/-
  The kernel and the reference leave the same result over the extended reals where the numbers are finite.
-/
module

public import proofs.«01_k».proof.Proof.RefValue
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL.Sem
open Cert.KernelIdeal.Hand

/-- Under the precondition the result, as the kernel arranges it, is the reference's result of the same arguments. -/
theorem result_eq {m : (ℓ : Loc Cert.KernelIdeal.nD Cert.KernelIdeal.τ Cert.KernelIdeal.sig) → Buf (Elt Ideal) ℓ}
    (h : @Cert.Pre_KernelIdeal_finite Cert.Pre_finite.Gen.facts m) (c : Dev Cert.KernelIdeal.nD) (j : Cert.KernelIdeal.S10000x256.Idx) :
    result m c (j 0).val (j 1).val
      = Cert.ReferenceIdeal.Read.val_main_v38 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) j := by
  obtain ⟨⟨hx, hx'⟩, ⟨hA, hA'⟩, ⟨h1, h2⟩, h1', h2'⟩ := pre_finite h c
  refine Eq.trans ?_ (ref_result _ _ _ _ _ _ j).symm
  unfold result
  rw [resN_eq_refN hA hx h1 h2, resN_eq_refN hA' hx' h1' h2']

/-- Over the extended reals, from finite arguments, the kernel and the reference run and leave the same result. -/
theorem algebraic : @Cert.algebraic_KernelIdeal_ReferenceIdeal_pre_finite Cert.KernelIdeal.Gen.facts Cert.ReferenceIdeal.Gen.facts
    Cert.Pre_finite.Gen.facts := by
  intro m g m' g' hpre hargs
  refine ⟨fun c j => result m c (j 0).val (j 1).val, ?_, ?_⟩
  · exact θ_run_mono (run m g (Inv m) (Out m) (inv_start m) (keeps m)) fun r h c =>
      ⟨funext fun j => result_of_post m h.1 c j, args_kept m (Inv m) (Out m) h.1 c⟩
  · refine θ_run_mono (Cert.ReferenceIdeal.Value.run (F := Ideal) m' g') fun r h c => ⟨?_, (h c).2⟩
    refine (h c).1.trans ?_
    obtain ⟨a0, a1, a2, a3, a4, a5⟩ := hargs c
    rw [Cert.ReferenceIdeal.Read.val_main_v38_eq, a0, a1, a2, a3, a4, a5]
    exact funext fun j => (result_eq hpre c j).symm

end Cert.Proof

end
-- ==== Proof.lean ====
/-
  The five claims: the three frames, the rewriting that changes nothing, and the equality of the two results over the
  extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Same
public import proofs.«01_k».proof.Proof.Ref
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything claimed: the three frames (also under the precondition, which they do not use), the rewriting, and the equality of
    the two results. -/
theorem claim : Cert.Claim :=
  ⟨Cert.Kernel.Gen.facts, Cert.KernelIdeal.Gen.facts, Cert.ReferenceIdeal.Gen.facts, Cert.Pre_finite.Gen.facts,
    kernel_frame, kernelIdeal_frame, fun m g _ => kernelIdeal_frame m g trivial, reference_frame, fun m g _ => reference_frame m g trivial,
    trivial, algebraic⟩

end Cert.Proof

end
